-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_convolved_finite [hPre_convolved_finite : Cert.Pre_convolved_finite.Facts] (m : (ℓ : Loc Cert.KernelIdeal.nD Cert.KernelIdeal.τ Cert.KernelIdeal.sig) → Buf (Elt Ideal) ℓ) : Prop :=
  ∀ c : Dev Cert.KernelIdeal.nD,
    (Cert.Pre_convolved_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_convolved_finite [hPre_convolved_finite : Cert.Pre_convolved_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_convolved_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_convolved_finite [hKernelIdeal : Cert.KernelIdeal.Facts] [hPre_convolved_finite : Cert.Pre_convolved_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_convolved_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_convolved_finite [hReferenceIdeal : Cert.ReferenceIdeal.Facts] [hPre_convolved_finite : Cert.Pre_convolved_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_convolved_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "taken" .f32 0x7F61B1E6#32 ⊤
  ∧ IdealRules.named_const.Statement Cert.KernelIdeal.κ "third" .f32 0x3EAAAAAB#32 ((1 / 3 : ℝ) : EReal)

def algebraic_KernelIdeal_ReferenceIdeal_pre_convolved_finite [hKernelIdeal : Cert.KernelIdeal.Facts] [hReferenceIdeal : Cert.ReferenceIdeal.Facts] [hPre_convolved_finite : Cert.Pre_convolved_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_convolved_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_convolved_finite : Cert.Pre_convolved_finite.Facts),
    quiescent_Kernel (hKernel := hKernel)
    ∧ quiescent_KernelIdeal (hKernelIdeal := hKernelIdeal)
    ∧ quiescent_KernelIdeal_pre_convolved_finite (hKernelIdeal := hKernelIdeal) (hPre_convolved_finite := hPre_convolved_finite)
    ∧ quiescent_ReferenceIdeal (hReferenceIdeal := hReferenceIdeal)
    ∧ quiescent_ReferenceIdeal_pre_convolved_finite (hReferenceIdeal := hReferenceIdeal) (hPre_convolved_finite := hPre_convolved_finite)
    ∧ preserves_Kernel_KernelIdeal
    ∧ algebraic_KernelIdeal_ReferenceIdeal_pre_convolved_finite (hKernelIdeal := hKernelIdeal) (hReferenceIdeal := hReferenceIdeal) (hPre_convolved_finite := hPre_convolved_finite)
-- ==== Pre_convolved_finite.lean ====
abbrev S128x16x2048 : Shape := ⟨3, ![128, 16, 2048]⟩
abbrev S16x16x5 : Shape := ⟨3, ![16, 16, 5]⟩
abbrev S16 : Shape := ⟨1, ![16]⟩
abbrev S32x16x5 : Shape := ⟨3, ![32, 16, 5]⟩
abbrev S32 : Shape := ⟨1, ![32]⟩
abbrev S32x256 : Shape := ⟨2, ![32, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S128x16x2048 : S_.BroadcastsInDim S128x16x2048 (![] : Fin 0 → Fin S128x16x2048.rank)
  reducesTo_S128x16x2048_S_d0_1_2 : S128x16x2048.ReducesTo [0, 1, 2] S_
  h_S_ : 0 < S_.numel
  bcast_S_S16x16x5 : S_.BroadcastsInDim S16x16x5 (![] : Fin 0 → Fin S16x16x5.rank)
  reducesTo_S16x16x5_S_d0_1_2 : S16x16x5.ReducesTo [0, 1, 2] S_
  bcast_S_S16 : S_.BroadcastsInDim S16 (![] : Fin 0 → Fin S16.rank)
  reducesTo_S16_S_d0 : S16.ReducesTo [0] S_
  bcast_S_S32x16x5 : S_.BroadcastsInDim S32x16x5 (![] : Fin 0 → Fin S32x16x5.rank)
  reducesTo_S32x16x5_S_d0_1_2 : S32x16x5.ReducesTo [0, 1, 2] S_

variable [Facts]

def fn_part1 {F : FTy → Type} [FloatOps F] (main_v13 : IVec S_ 1) (main_v16 : IVec S32x16x5 1) : IVec S_ 1 :=
  let main_c_5 : IVec S_ 1 := constantI S_ 1 1#1
  let main_v17 : IVec S_ 1 := (fun x v => Host.reduce IntOp.andi x v reducesTo_S32x16x5_S_d0_1_2 h_S_) main_v16 main_c_5
  let main_v18 : IVec S_ 1 := andi main_v13 main_v17
  main_v18

def fn {F : FTy → Type} [FloatOps F] (main_arg0 : FVec F S128x16x2048 .f32) (main_arg1 : FVec F S16x16x5 .f32) (main_arg2 : FVec F S16 .f32) (main_arg3 : FVec F S32x16x5 .f32) (main_arg4 : FVec F S32 .f32) (main_arg5 : FVec F S32x256 .f32) (main_arg6 : FVec F S256 .f32) (main_arg7 : FVec F S256x256 .f32) (main_arg8 : FVec F S256 .f32) (main_arg9 : FVec F S256x64 .f32) (main_arg10 : FVec F S64 .f32) : IVec S_ 1 :=
  let main_v0 : FVec F S128x16x2048 .f32 := Host.absf main_arg0
  let main_cst : FVec F S_ .f32 := constant S_ .f32 0x7F800000#32
  let main_v1 : FVec F S128x16x2048 .f32 := broadcastInDim S128x16x2048 ![] bcast_S_S128x16x2048 main_cst
  let main_v2 : IVec S128x16x2048 1 := cmpf .olt main_v0 main_v1
  let main_c : IVec S_ 1 := constantI S_ 1 1#1
  let main_v3 : IVec S_ 1 := (fun x v => Host.reduce IntOp.andi x v reducesTo_S128x16x2048_S_d0_1_2 h_S_) main_v2 main_c
  let main_v4 : FVec F S16x16x5 .f32 := Host.absf main_arg1
  let main_cst_0 : FVec F S_ .f32 := constant S_ .f32 0x7F800000#32
  let main_v5 : FVec F S16x16x5 .f32 := broadcastInDim S16x16x5 ![] bcast_S_S16x16x5 main_cst_0
  let main_v6 : IVec S16x16x5 1 := cmpf .olt main_v4 main_v5
  let main_c_1 : IVec S_ 1 := constantI S_ 1 1#1
  let main_v7 : IVec S_ 1 := (fun x v => Host.reduce IntOp.andi x v reducesTo_S16x16x5_S_d0_1_2 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S32x16x5 .f32 := Host.absf main_arg3
  let main_cst_4 : FVec F S_ .f32 := constant S_ .f32 0x7F800000#32
  let main_v15 : FVec F S32x16x5 .f32 := broadcastInDim S32x16x5 ![] bcast_S_S32x16x5 main_cst_4
  let main_v16 : IVec S32x16x5 1 := cmpf .olt main_v14 main_v15
  fn_part1 (F := F) main_v13 main_v16
-- ==== Kernel.lean ====
abbrev S128x16x2048 : Shape := ⟨3, ![128, 16, 2048]⟩
abbrev S16x16x5 : Shape := ⟨3, ![16, 16, 5]⟩
abbrev S16 : Shape := ⟨1, ![16]⟩
abbrev S32x16x5 : Shape := ⟨3, ![32, 16, 5]⟩
abbrev S32 : Shape := ⟨1, ![32]⟩
abbrev S32x256 : Shape := ⟨2, ![32, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S2048x2048 : Shape := ⟨2, ![2048, 2048]⟩
abbrev S8x8 : Shape := ⟨2, ![8, 8]⟩
abbrev S_ : Shape := ⟨0, ![]⟩
abbrev S16x16x1 : Shape := ⟨3, ![16, 16, 1]⟩
abbrev S16x16 : Shape := ⟨2, ![16, 16]⟩
abbrev S8x1x8x1 : Shape := ⟨4, ![8, 1, 8, 1]⟩
abbrev S1x16x1x16 : Shape := ⟨4, ![1, 16, 1, 16]⟩
abbrev S8x16x8x16 : Shape := ⟨4, ![8, 16, 8, 16]⟩
abbrev S128x128 : Shape := ⟨2, ![128, 128]⟩
abbrev S1x128x128 : Shape := ⟨3, ![1, 128, 128]⟩
abbrev S5x128x128 : Shape := ⟨3, ![5, 128, 128]⟩
abbrev S32x16x1 : Shape := ⟨3, ![32, 16, 1]⟩
abbrev S32x16 : Shape := ⟨2, ![32, 16]⟩
abbrev S16x32 : Shape := ⟨2, ![16, 32]⟩
abbrev S1x16x1x32 : Shape := ⟨4, ![1, 16, 1, 32]⟩
abbrev S8x16x8x32 : Shape := ⟨4, ![8, 16, 8, 32]⟩
abbrev S128x256 : Shape := ⟨2, ![128, 256]⟩
abbrev S1x128x256 : Shape := ⟨3, ![1, 128, 256]⟩
abbrev S5x128x256 : Shape := ⟨3, ![5, 128, 256]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S1x32 : Shape := ⟨2, ![1, 32]⟩
abbrev S8x32 : Shape := ⟨2, ![8, 32]⟩
abbrev S1x256 : Shape := ⟨2, ![1, 256]⟩
abbrev S1x64 : Shape := ⟨2, ![1, 64]⟩
abbrev S128x64 : Shape := ⟨2, ![128, 64]⟩
abbrev S128x2048 : Shape := ⟨2, ![128, 2048]⟩
abbrev S8x64 : Shape := ⟨2, ![8, 64]⟩
abbrev S512x32 : Shape := ⟨2, ![512, 32]⟩
abbrev S512x256 : Shape := ⟨2, ![512, 256]⟩
abbrev S2048x128 : Shape := ⟨2, ![2048, 128]⟩
abbrev S512x4x128 : Shape := ⟨3, ![512, 4, 128]⟩
abbrev S512x1x128 : Shape := ⟨3, ![512, 1, 128]⟩
abbrev S512x128 : Shape := ⟨2, ![512, 128]⟩
abbrev S511x128 : Shape := ⟨2, ![511, 128]⟩
abbrev S512x8x32 : Shape := ⟨3, ![512, 8, 32]⟩
abbrev S8x256 : Shape := ⟨2, ![8, 256]⟩
abbrev S32x1 : Shape := ⟨2, ![32, 1]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1x1 : Shape := ⟨2, ![1, 1]⟩

abbrev nBuf : Space → Nat
  | .hbm => 138
  | .vmem => 17
  | .smem => 0
  | _ => 0

abbrev hbmTy0_0 (i : Nat) : BufTy := match i % 128 with
  | 0 => ⟨S128x16x2048, .f32⟩
  | 1 => ⟨S16x16x5, .f32⟩
  | 2 => ⟨S16, .f32⟩
  | 3 => ⟨S32x16x5, .f32⟩
  | 4 => ⟨S32, .f32⟩
  | 5 => ⟨S32x256, .f32⟩
  | 6 => ⟨S256, .f32⟩
  | 7 => ⟨S256x256, .f32⟩
  | 8 => ⟨S256, .f32⟩
  | 9 => ⟨S256x64, .f32⟩
  | 10 => ⟨S64, .f32⟩
  | 11 => ⟨S2048x2048, .f32⟩
  | 12 => ⟨S8x8, .i32⟩
  | 13 => ⟨S8x8, .i32⟩
  | 14 => ⟨S_, .i32⟩
  | 15 => ⟨S8x8, .i32⟩
  | 16 => ⟨S8x8, .i32⟩
  | 17 => ⟨S8x8, .i1⟩
  | 18 => ⟨S8x8, .f32⟩
  | 19 => ⟨S16x16x1, .f32⟩
  | 20 => ⟨S16x16, .f32⟩
  | 21 => ⟨S16x16, .f32⟩
  | 22 => ⟨S8x1x8x1, .f32⟩
  | 23 => ⟨S1x16x1x16, .f32⟩
  | 24 => ⟨S8x16x8x16, .f32⟩
  | 25 => ⟨S8x16x8x16, .f32⟩
  | 26 => ⟨S8x16x8x16, .f32⟩
  | 27 => ⟨S128x128, .f32⟩
  | 28 => ⟨S16x16x1, .f32⟩
  | 29 => ⟨S16x16, .f32⟩
  | 30 => ⟨S16x16, .f32⟩
  | 31 => ⟨S8x1x8x1, .f32⟩
  | 32 => ⟨S1x16x1x16, .f32⟩
  | 33 => ⟨S8x16x8x16, .f32⟩
  | 34 => ⟨S8x16x8x16, .f32⟩
  | 35 => ⟨S8x16x8x16, .f32⟩
  | 36 => ⟨S128x128, .f32⟩
  | 37 => ⟨S16x16x1, .f32⟩
  | 38 => ⟨S16x16, .f32⟩
  | 39 => ⟨S16x16, .f32⟩
  | 40 => ⟨S8x1x8x1, .f32⟩
  | 41 => ⟨S1x16x1x16, .f32⟩
  | 42 => ⟨S8x16x8x16, .f32⟩
  | 43 => ⟨S8x16x8x16, .f32⟩
  | 44 => ⟨S8x16x8x16, .f32⟩
  | 45 => ⟨S128x128, .f32⟩
  | 46 => ⟨S16x16x1, .f32⟩
  | 47 => ⟨S16x16, .f32⟩
  | 48 => ⟨S16x16, .f32⟩
  | 49 => ⟨S8x1x8x1, .f32⟩
  | 50 => ⟨S1x16x1x16, .f32⟩
  | 51 => ⟨S8x16x8x16, .f32⟩
  | 52 => ⟨S8x16x8x16, .f32⟩
  | 53 => ⟨S8x16x8x16, .f32⟩
  | 54 => ⟨S128x128, .f32⟩
  | 55 => ⟨S16x16x1, .f32⟩
  | 56 => ⟨S16x16, .f32⟩
  | 57 => ⟨S16x16, .f32⟩
  | 58 => ⟨S8x1x8x1, .f32⟩
  | 59 => ⟨S1x16x1x16, .f32⟩
  | 60 => ⟨S8x16x8x16, .f32⟩
  | 61 => ⟨S8x16x8x16, .f32⟩
  | 62 => ⟨S8x16x8x16, .f32⟩
  | 63 => ⟨S128x128, .f32⟩
  | 64 => ⟨S1x128x128, .f32⟩
  | 65 => ⟨S1x128x128, .f32⟩
  | 66 => ⟨S1x128x128, .f32⟩
  | 67 => ⟨S1x128x128, .f32⟩
  | 68 => ⟨S1x128x128, .f32⟩
  | 69 => ⟨S5x128x128, .f32⟩
  | 70 => ⟨S32x16x1, .f32⟩
  | 71 => ⟨S32x16, .f32⟩
  | 72 => ⟨S16x32, .f32⟩
  | 73 => ⟨S8x1x8x1, .f32⟩
  | 74 => ⟨S1x16x1x32, .f32⟩
  | 75 => ⟨S8x16x8x32, .f32⟩
  | 76 => ⟨S8x16x8x32, .f32⟩
  | 77 => ⟨S8x16x8x32, .f32⟩
  | 78 => ⟨S128x256, .f32⟩
  | 79 => ⟨S32x16x1, .f32⟩
  | 80 => ⟨S32x16, .f32⟩
  | 81 => ⟨S16x32, .f32⟩
  | 82 => ⟨S8x1x8x1, .f32⟩
  | 83 => ⟨S1x16x1x32, .f32⟩
  | 84 => ⟨S8x16x8x32, .f32⟩
  | 85 => ⟨S8x16x8x32, .f32⟩
  | 86 => ⟨S8x16x8x32, .f32⟩
  | 87 => ⟨S128x256, .f32⟩
  | 88 => ⟨S32x16x1, .f32⟩
  | 89 => ⟨S32x16, .f32⟩
  | 90 => ⟨S16x32, .f32⟩
  | 91 => ⟨S8x1x8x1, .f32⟩
  | 92 => ⟨S1x16x1x32, .f32⟩
  | 93 => ⟨S8x16x8x32, .f32⟩
  | 94 => ⟨S8x16x8x32, .f32⟩
  | 95 => ⟨S8x16x8x32, .f32⟩
  | 96 => ⟨S128x256, .f32⟩
  | 97 => ⟨S32x16x1, .f32⟩
  | 98 => ⟨S32x16, .f32⟩
  | 99 => ⟨S16x32, .f32⟩
  | 100 => ⟨S8x1x8x1, .f32⟩
  | 101 => ⟨S1x16x1x32, .f32⟩
  | 102 => ⟨S8x16x8x32, .f32⟩
  | 103 => ⟨S8x16x8x32, .f32⟩
  | 104 => ⟨S8x16x8x32, .f32⟩
  | 105 => ⟨S128x256, .f32⟩
  | 106 => ⟨S32x16x1, .f32⟩
  | 107 => ⟨S32x16, .f32⟩
  | 108 => ⟨S16x32, .f32⟩
  | 109 => ⟨S8x1x8x1, .f32⟩
  | 110 => ⟨S1x16x1x32, .f32⟩
  | 111 => ⟨S8x16x8x32, .f32⟩
  | 112 => ⟨S8x16x8x32, .f32⟩
  | 113 => ⟨S8x16x8x32, .f32⟩
  | 114 => ⟨S128x256, .f32⟩
  | 115 => ⟨S1x128x256, .f32⟩
  | 116 => ⟨S1x128x256, .f32⟩
  | 117 => ⟨S1x128x256, .f32⟩
  | 118 => ⟨S1x128x256, .f32⟩
  | 119 => ⟨S1x128x256, .f32⟩
  | 120 => ⟨S5x128x256, .f32⟩
  | 121 => ⟨S5x128x128, .bf16⟩
  | 122 => ⟨S5x128x256, .bf16⟩
  | 123 => ⟨S1x16, .f32⟩
  | 124 => ⟨S8x16, .f32⟩
  | 125 => ⟨S128, .f32⟩
  | 126 => ⟨S1x128, .f32⟩
  | 127 => ⟨S1x32, .f32⟩
  | _ => ⟨S128x16x2048, .f32⟩

abbrev hbmTy0_1 (i : Nat) : BufTy := match i % 128 with
  | 0 => ⟨S8x32, .f32⟩
  | 1 => ⟨S256, .f32⟩
  | 2 => ⟨S1x256, .f32⟩
  | 3 => ⟨S32x256, .bf16⟩
  | 4 => ⟨S1x256, .f32⟩
  | 5 => ⟨S256x256, .bf16⟩
  | 6 => ⟨S1x256, .f32⟩
  | 7 => ⟨S256x64, .bf16⟩
  | 8 => ⟨S1x64, .f32⟩
  | 9 => ⟨S128x64, .f32⟩
  | _ => ⟨S128x16x2048, .f32⟩

abbrev hbmTy (i : Nat) : BufTy := match i / 128 with
  | 0 => hbmTy0_0 i
  | 1 => hbmTy0_1 i
  | _ => ⟨S128x16x2048, .f32⟩

abbrev bufTy : (tb : Table) → Fin (tcTables nBuf tb) → BufTy
  | .hbm, ⟨i, _⟩ => hbmTy i
  | .local _ .vmem, ⟨0, _⟩ => ⟨S128x2048, .f32⟩
  | .local _ .vmem, ⟨1, _⟩ => ⟨S128x2048, .f32⟩
  | .local _ .vmem, ⟨2, _⟩ => ⟨S5x128x128, .bf16⟩
  | .local _ .vmem, ⟨3, _⟩ => ⟨S1x128, .f32⟩
  | .local _ .vmem, ⟨4, _⟩ => ⟨S5x128x256, .bf16⟩
  | .local _ .vmem, ⟨5, _⟩ => ⟨S1x256, .f32⟩
  | .local _ .vmem, ⟨6, _⟩ => ⟨S32x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S256x64, .bf16⟩
  | .local _ .vmem, ⟨11, _⟩ => ⟨S1x64, .f32⟩
  | .local _ .vmem, ⟨12, _⟩ => ⟨S8x64, .f32⟩
  | .local _ .vmem, ⟨13, _⟩ => ⟨S8x64, .f32⟩
  | .local _ .vmem, ⟨14, _⟩ => ⟨S512x32, .f32⟩
  | .local _ .vmem, ⟨15, _⟩ => ⟨S512x32, .f32⟩
  | .local _ .vmem, ⟨16, _⟩ => ⟨S512x256, .f32⟩
  | _, _ => ⟨S128x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_call4_v3 : Ref sig .tc := ⟨.hbm, 61, rfl⟩
abbrev main_call4_v4 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_call5_v0 : Ref sig .tc := ⟨.hbm, 73, rfl⟩
abbrev main_call5_v1 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_call6_v3 : Ref sig .tc := ⟨.hbm, 85, rfl⟩
abbrev main_call6_v4 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_call7_v0 : Ref sig .tc := ⟨.hbm, 91, rfl⟩
abbrev main_call7_v1 : Ref sig .tc := ⟨.hbm, 92, rfl⟩
abbrev main_call7_v2 : Ref sig .tc := ⟨.hbm, 93, rfl⟩
abbrev main_call7_v3 : Ref sig .tc := ⟨.hbm, 94, rfl⟩
abbrev main_call7_v4 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_call8_v0 : Ref sig .tc := ⟨.hbm, 100, rfl⟩
abbrev main_call8_v1 : Ref sig .tc := ⟨.hbm, 101, rfl⟩
abbrev main_call8_v2 : Ref sig .tc := ⟨.hbm, 102, rfl⟩
abbrev main_call8_v3 : Ref sig .tc := ⟨.hbm, 103, rfl⟩
abbrev main_call8_v4 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_call9_v0 : Ref sig .tc := ⟨.hbm, 109, rfl⟩
abbrev main_call9_v1 : Ref sig .tc := ⟨.hbm, 110, rfl⟩
abbrev main_call9_v2 : Ref sig .tc := ⟨.hbm, 111, rfl⟩
abbrev main_call9_v3 : Ref sig .tc := ⟨.hbm, 112, rfl⟩
abbrev main_call9_v4 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c15_i32 : BitVec 32 := 15#32
  let v0 : BitVec 1 := Scalar.cmpi .sle arg0 c15_i32
  let v1 : BitVec 32 := Scalar.extui v0
  let c0_i32 : BitVec 32 := 0#32
  let v2 : BitVec 1 := Scalar.cmpi .ne v1 c0_i32
  v2

def k0_cond5 (i : grid0.Coords) : BitVec 1 :=
  let arg0 : BitVec 32 := BitVec.ofNat 32 (i 0).val
  let c15_i32_83 : BitVec 32 := 15#32
  let v160 : BitVec 1 := Scalar.cmpi .slt arg0 c15_i32_83
  let v161 : BitVec 32 := Scalar.extui v160
  let c0_i32_84 : BitVec 32 := 0#32
  let v162 : BitVec 1 := Scalar.cmpi .ne v161 c0_i32_84
  v162

def k0_cond6 (i : grid0.Coords) : BitVec 1 :=
  let arg0 : BitVec 32 := BitVec.ofNat 32 (i 0).val
  let c16_i32 : BitVec 32 := 16#32
  let v3 : BitVec 1 := Scalar.cmpi .eq arg0 c16_i32
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c15_i32 : BitVec 32 := 15#32
  let v0 : BitVec 1 := Scalar.cmpi .slt arg0 c15_i32
  let c1_i32 : BitVec 32 := 1#32
  let v1 : BitVec 32 := Scalar.addi arg0 c1_i32
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c15_i32 : BitVec 32 := 15#32
  let v0 : BitVec 1 := Scalar.cmpi .slt arg0 c15_i32
  let c1_i32 : BitVec 32 := 1#32
  let v1 : BitVec 32 := Scalar.addi arg0 c1_i32
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "taken" => some ⊤
  | "third" => some ((1 / 3 : ℝ) : EReal)
  | _ => none
-- ==== ReferenceIdeal.lean ====
abbrev S128x16x2048 : Shape := ⟨3, ![128, 16, 2048]⟩
abbrev S16x16x5 : Shape := ⟨3, ![16, 16, 5]⟩
abbrev S16 : Shape := ⟨1, ![16]⟩
abbrev S32x16x5 : Shape := ⟨3, ![32, 16, 5]⟩
abbrev S32 : Shape := ⟨1, ![32]⟩
abbrev S32x256 : Shape := ⟨2, ![32, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩
abbrev S128x16x2052 : Shape := ⟨3, ![128, 16, 2052]⟩
abbrev S16x16x1 : Shape := ⟨3, ![16, 16, 1]⟩
abbrev S16x16 : Shape := ⟨2, ![16, 16]⟩
abbrev S16x128x2048 : Shape := ⟨3, ![16, 128, 2048]⟩
abbrev S1x16x1 : Shape := ⟨3, ![1, 16, 1]⟩
abbrev S128x16x1024x2 : Shape := ⟨4, ![128, 16, 1024, 2]⟩
abbrev S128x16x1024 : Shape := ⟨3, ![128, 16, 1024]⟩
abbrev S128x16x1028 : Shape := ⟨3, ![128, 16, 1028]⟩
abbrev S32x16x1 : Shape := ⟨3, ![32, 16, 1]⟩
abbrev S32x16 : Shape := ⟨2, ![32, 16]⟩
abbrev S32x128x1024 : Shape := ⟨3, ![32, 128, 1024]⟩
abbrev S128x32x1024 : Shape := ⟨3, ![128, 32, 1024]⟩
abbrev S1x32x1 : Shape := ⟨3, ![1, 32, 1]⟩
abbrev S128x32x512x2 : Shape := ⟨4, ![128, 32, 512, 2]⟩
abbrev S128x32x512 : Shape := ⟨3, ![128, 32, 512]⟩
abbrev S128x512x32 : Shape := ⟨3, ![128, 512, 32]⟩
abbrev S65536x32 : Shape := ⟨2, ![65536, 32]⟩
abbrev S512x32 : Shape := ⟨2, ![512, 32]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S32x512 : Shape := ⟨2, ![32, 512]⟩
abbrev S512x8 : Shape := ⟨2, ![512, 8]⟩
abbrev S4096 : Shape := ⟨1, ![4096]⟩
abbrev S65536 : Shape := ⟨1, ![65536]⟩
abbrev S69632 : Shape := ⟨1, ![69632]⟩
abbrev S65536x256 : Shape := ⟨2, ![65536, 256]⟩
abbrev S69632x1 : Shape := ⟨2, ![69632, 1]⟩
abbrev S69632x256 : Shape := ⟨2, ![69632, 256]⟩
abbrev S1x256 : Shape := ⟨2, ![1, 256]⟩
abbrev S128x512x256 : Shape := ⟨3, ![128, 512, 256]⟩
abbrev S128x256 : Shape := ⟨2, ![128, 256]⟩
abbrev S128x64 : Shape := ⟨2, ![128, 64]⟩
abbrev S1x64 : Shape := ⟨2, ![1, 64]⟩

abbrev nBuf : Space → Nat
  | .hbm => 328
  | .vmem => 0
  | .smem => 0
  | _ => 0

abbrev hbmTy0_0 (i : Nat) : BufTy := match i % 128 with
  | 0 => ⟨S128x16x2048, .f32⟩
  | 1 => ⟨S16x16x5, .f32⟩
  | 2 => ⟨S16, .f32⟩
  | 3 => ⟨S32x16x5, .f32⟩
  | 4 => ⟨S32, .f32⟩
  | 5 => ⟨S32x256, .f32⟩
  | 6 => ⟨S256, .f32⟩
  | 7 => ⟨S256x256, .f32⟩
  | 8 => ⟨S256, .f32⟩
  | 9 => ⟨S256x64, .f32⟩
  | 10 => ⟨S64, .f32⟩
  | 11 => ⟨S_, .i32⟩
  | 12 => ⟨S_, .f32⟩
  | 13 => ⟨S128x16x2052, .f32⟩
  | 14 => ⟨S128x16x2048, .f32⟩
  | 15 => ⟨S16x16x1, .f32⟩
  | 16 => ⟨S16x16, .f32⟩
  | 17 => ⟨S16x128x2048, .f32⟩
  | 18 => ⟨S128x16x2048, .f32⟩
  | 19 => ⟨S_, .f32⟩
  | 20 => ⟨S128x16x2048, .f32⟩
  | 21 => ⟨S128x16x2048, .f32⟩
  | 22 => ⟨S128x16x2048, .f32⟩
  | 23 => ⟨S16x16x1, .f32⟩
  | 24 => ⟨S16x16, .f32⟩
  | 25 => ⟨S16x128x2048, .f32⟩
  | 26 => ⟨S128x16x2048, .f32⟩
  | 27 => ⟨S128x16x2048, .f32⟩
  | 28 => ⟨S128x16x2048, .f32⟩
  | 29 => ⟨S16x16x1, .f32⟩
  | 30 => ⟨S16x16, .f32⟩
  | 31 => ⟨S16x128x2048, .f32⟩
  | 32 => ⟨S128x16x2048, .f32⟩
  | 33 => ⟨S128x16x2048, .f32⟩
  | 34 => ⟨S128x16x2048, .f32⟩
  | 35 => ⟨S16x16x1, .f32⟩
  | 36 => ⟨S16x16, .f32⟩
  | 37 => ⟨S16x128x2048, .f32⟩
  | 38 => ⟨S128x16x2048, .f32⟩
  | 39 => ⟨S128x16x2048, .f32⟩
  | 40 => ⟨S128x16x2048, .f32⟩
  | 41 => ⟨S16x16x1, .f32⟩
  | 42 => ⟨S16x16, .f32⟩
  | 43 => ⟨S16x128x2048, .f32⟩
  | 44 => ⟨S128x16x2048, .f32⟩
  | 45 => ⟨S128x16x2048, .f32⟩
  | 46 => ⟨S1x16x1, .f32⟩
  | 47 => ⟨S128x16x2048, .f32⟩
  | 48 => ⟨S128x16x2048, .f32⟩
  | 49 => ⟨S_, .f32⟩
  | 50 => ⟨S128x16x2048, .f32⟩
  | 51 => ⟨S128x16x2048, .f32⟩
  | 52 => ⟨S128x16x1024x2, .f32⟩
  | 53 => ⟨S_, .f32⟩
  | 54 => ⟨S128x16x1024, .f32⟩
  | 55 => ⟨S_, .i32⟩
  | 56 => ⟨S_, .f32⟩
  | 57 => ⟨S128x16x1028, .f32⟩
  | 58 => ⟨S128x16x1024, .f32⟩
  | 59 => ⟨S32x16x1, .f32⟩
  | 60 => ⟨S32x16, .f32⟩
  | 61 => ⟨S32x128x1024, .f32⟩
  | 62 => ⟨S128x32x1024, .f32⟩
  | 63 => ⟨S_, .f32⟩
  | 64 => ⟨S128x32x1024, .f32⟩
  | 65 => ⟨S128x32x1024, .f32⟩
  | 66 => ⟨S128x16x1024, .f32⟩
  | 67 => ⟨S32x16x1, .f32⟩
  | 68 => ⟨S32x16, .f32⟩
  | 69 => ⟨S32x128x1024, .f32⟩
  | 70 => ⟨S128x32x1024, .f32⟩
  | 71 => ⟨S128x32x1024, .f32⟩
  | 72 => ⟨S128x16x1024, .f32⟩
  | 73 => ⟨S32x16x1, .f32⟩
  | 74 => ⟨S32x16, .f32⟩
  | 75 => ⟨S32x128x1024, .f32⟩
  | 76 => ⟨S128x32x1024, .f32⟩
  | 77 => ⟨S128x32x1024, .f32⟩
  | 78 => ⟨S128x16x1024, .f32⟩
  | 79 => ⟨S32x16x1, .f32⟩
  | 80 => ⟨S32x16, .f32⟩
  | 81 => ⟨S32x128x1024, .f32⟩
  | 82 => ⟨S128x32x1024, .f32⟩
  | 83 => ⟨S128x32x1024, .f32⟩
  | 84 => ⟨S128x16x1024, .f32⟩
  | 85 => ⟨S32x16x1, .f32⟩
  | 86 => ⟨S32x16, .f32⟩
  | 87 => ⟨S32x128x1024, .f32⟩
  | 88 => ⟨S128x32x1024, .f32⟩
  | 89 => ⟨S128x32x1024, .f32⟩
  | 90 => ⟨S1x32x1, .f32⟩
  | 91 => ⟨S128x32x1024, .f32⟩
  | 92 => ⟨S128x32x1024, .f32⟩
  | 93 => ⟨S_, .f32⟩
  | 94 => ⟨S128x32x1024, .f32⟩
  | 95 => ⟨S128x32x1024, .f32⟩
  | 96 => ⟨S128x32x512x2, .f32⟩
  | 97 => ⟨S_, .f32⟩
  | 98 => ⟨S128x32x512, .f32⟩
  | 99 => ⟨S128x512x32, .f32⟩
  | 100 => ⟨S65536x32, .f32⟩
  | 101 => ⟨S128x512x32, .f32⟩
  | 102 => ⟨S_, .f32⟩
  | 103 => ⟨S512x32, .f32⟩
  | 104 => ⟨S_, .f32⟩
  | 105 => ⟨S512x32, .f32⟩
  | 106 => ⟨S512x32, .f32⟩
  | 107 => ⟨S512x32, .f32⟩
  | 108 => ⟨S_, .f32⟩
  | 109 => ⟨S512, .f32⟩
  | 110 => ⟨S512x1, .f32⟩
  | 111 => ⟨S1x512, .f32⟩
  | 112 => ⟨S512x512, .f32⟩
  | 113 => ⟨S512x512, .f32⟩
  | 114 => ⟨S512x512, .f32⟩
  | 115 => ⟨S32x512, .f32⟩
  | 116 => ⟨S512x512, .f32⟩
  | 117 => ⟨S_, .f32⟩
  | 118 => ⟨S512x512, .f32⟩
  | 119 => ⟨S512x512, .f32⟩
  | 120 => ⟨S512x512, .f32⟩
  | 121 => ⟨S512x512, .i32⟩
  | 122 => ⟨S512x512, .i32⟩
  | 123 => ⟨S_, .i32⟩
  | 124 => ⟨S512x512, .i32⟩
  | 125 => ⟨S512x512, .i32⟩
  | 126 => ⟨S512x512, .i1⟩
  | 127 => ⟨S512x512, .f32⟩
  | _ => ⟨S128x16x2048, .f32⟩

abbrev hbmTy0_1 (i : Nat) : BufTy := match i % 128 with
  | 0 => ⟨S_, .f32⟩
  | 1 => ⟨S512x512, .f32⟩
  | 2 => ⟨S512x512, .f32⟩
  | 3 => ⟨S512x512, .f32⟩
  | 4 => ⟨S512x512, .f32⟩
  | 5 => ⟨S512x8, .f32⟩
  | 6 => ⟨S512x8, .i32⟩
  | 7 => ⟨S4096, .i32⟩
  | 8 => ⟨S_, .i32⟩
  | 9 => ⟨S_, .i32⟩
  | 10 => ⟨S_, .i32⟩
  | 11 => ⟨S4096, .i32⟩
  | 12 => ⟨S4096, .i32⟩
  | 13 => ⟨S_, .i32⟩
  | 14 => ⟨S4096, .i32⟩
  | 15 => ⟨S4096, .i32⟩
  | 16 => ⟨S512, .i32⟩
  | 17 => ⟨S512x8, .i32⟩
  | 18 => ⟨S4096, .i32⟩
  | 19 => ⟨S_, .i32⟩
  | 20 => ⟨S_, .i32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S65536, .i32⟩
  | 28 => ⟨S69632, .i32⟩
  | 29 => ⟨S69632, .i32⟩
  | 30 => ⟨S65536x256, .f32⟩
  | 31 => ⟨S_, .f32⟩
  | 32 => ⟨S65536, .f32⟩
  | 33 => ⟨S_, .i32⟩
  | 34 => ⟨S69632, .i32⟩
  | 35 => ⟨S69632, .i1⟩
  | 36 => ⟨S_, .i32⟩
  | 37 => ⟨S69632, .i32⟩
  | 38 => ⟨S69632, .i32⟩
  | 39 => ⟨S69632, .i32⟩
  | 40 => ⟨S69632x1, .i32⟩
  | 41 => ⟨S_, .f32⟩
  | 42 => ⟨S69632, .f32⟩
  | 43 => ⟨S65536, .f32⟩
  | 44 => ⟨S_, .f32⟩
  | 45 => ⟨S65536, .f32⟩
  | 46 => ⟨S65536, .i1⟩
  | 47 => ⟨S_, .f32⟩
  | 48 => ⟨S65536, .f32⟩
  | 49 => ⟨S65536, .i1⟩
  | 50 => ⟨S_, .f32⟩
  | 51 => ⟨S_, .f32⟩
  | 52 => ⟨S65536, .f32⟩
  | 53 => ⟨S65536, .f32⟩
  | 54 => ⟨S65536, .f32⟩
  | 55 => ⟨S_, .f32⟩
  | 56 => ⟨S65536, .f32⟩
  | 57 => ⟨S65536, .f32⟩
  | 58 => ⟨S_, .f32⟩
  | 59 => ⟨S_, .f32⟩
  | 60 => ⟨S65536, .f32⟩
  | 61 => ⟨S65536, .f32⟩
  | 62 => ⟨S_, .i32⟩
  | 63 => ⟨S69632, .i32⟩
  | 64 => ⟨S69632, .i1⟩
  | 65 => ⟨S_, .i32⟩
  | 66 => ⟨S69632, .i32⟩
  | 67 => ⟨S69632, .i32⟩
  | 68 => ⟨S69632, .i32⟩
  | 69 => ⟨S69632x1, .i32⟩
  | 70 => ⟨S69632, .f32⟩
  | 71 => ⟨S_, .i32⟩
  | 72 => ⟨S69632, .i32⟩
  | 73 => ⟨S69632, .i1⟩
  | 74 => ⟨S_, .i32⟩
  | 75 => ⟨S69632, .i32⟩
  | 76 => ⟨S69632, .i32⟩
  | 77 => ⟨S69632, .i32⟩
  | 78 => ⟨S69632x1, .i32⟩
  | 79 => ⟨S69632, .f32⟩
  | 80 => ⟨S69632, .f32⟩
  | 81 => ⟨S_, .f32⟩
  | 82 => ⟨S65536x256, .f32⟩
  | 83 => ⟨S69632x1, .f32⟩
  | 84 => ⟨S_, .i32⟩
  | 85 => ⟨S69632, .i32⟩
  | 86 => ⟨S69632, .i1⟩
  | 87 => ⟨S_, .i32⟩
  | 88 => ⟨S69632, .i32⟩
  | 89 => ⟨S69632, .i32⟩
  | 90 => ⟨S69632, .i32⟩
  | 91 => ⟨S69632x1, .i32⟩
  | 92 => ⟨S69632x256, .f32⟩
  | 93 => ⟨S69632x256, .f32⟩
  | 94 => ⟨S69632x256, .f32⟩
  | 95 => ⟨S_, .i32⟩
  | 96 => ⟨S69632, .i32⟩
  | 97 => ⟨S69632, .i1⟩
  | 98 => ⟨S_, .i32⟩
  | 99 => ⟨S69632, .i32⟩
  | 100 => ⟨S69632, .i32⟩
  | 101 => ⟨S69632, .i32⟩
  | 102 => ⟨S69632x1, .i32⟩
  | 103 => ⟨S65536x256, .f32⟩
  | 104 => ⟨S1x256, .f32⟩
  | 105 => ⟨S65536x256, .f32⟩
  | 106 => ⟨S65536x256, .f32⟩
  | 107 => ⟨S_, .f32⟩
  | 108 => ⟨S65536x256, .f32⟩
  | 109 => ⟨S65536x256, .f32⟩
  | 110 => ⟨S65536x256, .f32⟩
  | 111 => ⟨S_, .f32⟩
  | 112 => ⟨S65536, .f32⟩
  | 113 => ⟨S_, .i32⟩
  | 114 => ⟨S69632, .i32⟩
  | 115 => ⟨S69632, .i1⟩
  | 116 => ⟨S_, .i32⟩
  | 117 => ⟨S69632, .i32⟩
  | 118 => ⟨S69632, .i32⟩
  | 119 => ⟨S69632, .i32⟩
  | 120 => ⟨S69632x1, .i32⟩
  | 121 => ⟨S_, .f32⟩
  | 122 => ⟨S69632, .f32⟩
  | 123 => ⟨S65536, .f32⟩
  | 124 => ⟨S_, .f32⟩
  | 125 => ⟨S65536, .f32⟩
  | 126 => ⟨S65536, .i1⟩
  | 127 => ⟨S_, .f32⟩
  | _ => ⟨S128x16x2048, .f32⟩

abbrev hbmTy0_2 (i : Nat) : BufTy := match i % 128 with
  | 0 => ⟨S65536, .f32⟩
  | 1 => ⟨S65536, .i1⟩
  | 2 => ⟨S_, .f32⟩
  | 3 => ⟨S_, .f32⟩
  | 4 => ⟨S65536, .f32⟩
  | 5 => ⟨S65536, .f32⟩
  | 6 => ⟨S65536, .f32⟩
  | 7 => ⟨S_, .f32⟩
  | 8 => ⟨S65536, .f32⟩
  | 9 => ⟨S65536, .f32⟩
  | 10 => ⟨S_, .f32⟩
  | 11 => ⟨S_, .f32⟩
  | 12 => ⟨S65536, .f32⟩
  | 13 => ⟨S65536, .f32⟩
  | 14 => ⟨S_, .i32⟩
  | 15 => ⟨S69632, .i32⟩
  | 16 => ⟨S69632, .i1⟩
  | 17 => ⟨S_, .i32⟩
  | 18 => ⟨S69632, .i32⟩
  | 19 => ⟨S69632, .i32⟩
  | 20 => ⟨S69632, .i32⟩
  | 21 => ⟨S69632x1, .i32⟩
  | 22 => ⟨S69632, .f32⟩
  | 23 => ⟨S_, .i32⟩
  | 24 => ⟨S69632, .i32⟩
  | 25 => ⟨S69632, .i1⟩
  | 26 => ⟨S_, .i32⟩
  | 27 => ⟨S69632, .i32⟩
  | 28 => ⟨S69632, .i32⟩
  | 29 => ⟨S69632, .i32⟩
  | 30 => ⟨S69632x1, .i32⟩
  | 31 => ⟨S69632, .f32⟩
  | 32 => ⟨S69632, .f32⟩
  | 33 => ⟨S_, .f32⟩
  | 34 => ⟨S65536x256, .f32⟩
  | 35 => ⟨S69632x1, .f32⟩
  | 36 => ⟨S_, .i32⟩
  | 37 => ⟨S69632, .i32⟩
  | 38 => ⟨S69632, .i1⟩
  | 39 => ⟨S_, .i32⟩
  | 40 => ⟨S69632, .i32⟩
  | 41 => ⟨S69632, .i32⟩
  | 42 => ⟨S69632, .i32⟩
  | 43 => ⟨S69632x1, .i32⟩
  | 44 => ⟨S69632x256, .f32⟩
  | 45 => ⟨S69632x256, .f32⟩
  | 46 => ⟨S69632x256, .f32⟩
  | 47 => ⟨S_, .i32⟩
  | 48 => ⟨S69632, .i32⟩
  | 49 => ⟨S69632, .i1⟩
  | 50 => ⟨S_, .i32⟩
  | 51 => ⟨S69632, .i32⟩
  | 52 => ⟨S69632, .i32⟩
  | 53 => ⟨S69632, .i32⟩
  | 54 => ⟨S69632x1, .i32⟩
  | 55 => ⟨S65536x256, .f32⟩
  | 56 => ⟨S1x256, .f32⟩
  | 57 => ⟨S65536x256, .f32⟩
  | 58 => ⟨S65536x256, .f32⟩
  | 59 => ⟨S_, .f32⟩
  | 60 => ⟨S65536x256, .f32⟩
  | 61 => ⟨S65536x256, .f32⟩
  | 62 => ⟨S128x512x256, .f32⟩
  | 63 => ⟨S_, .f32⟩
  | 64 => ⟨S128x256, .f32⟩
  | 65 => ⟨S_, .f32⟩
  | 66 => ⟨S128x256, .f32⟩
  | 67 => ⟨S128x256, .f32⟩
  | 68 => ⟨S128x64, .f32⟩
  | 69 => ⟨S1x64, .f32⟩
  | 70 => ⟨S128x64, .f32⟩
  | 71 => ⟨S128x64, .f32⟩
  | _ => ⟨S128x16x2048, .f32⟩

abbrev hbmTy (i : Nat) : BufTy := match i / 128 with
  | 0 => hbmTy0_0 i
  | 1 => hbmTy0_1 i
  | 2 => hbmTy0_2 i
  | _ => ⟨S128x16x2048, .f32⟩

abbrev bufTy : (tb : Table) → Fin (tcTables nBuf tb) → BufTy
  | .hbm, ⟨i, _⟩ => hbmTy i
  | _, _ => ⟨S128x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_cst : Ref sig .tc := ⟨.hbm, 49, rfl⟩
abbrev main_call1_v0 : Ref sig .tc := ⟨.hbm, 50, rfl⟩
abbrev main_v35 : Ref sig .tc := ⟨.hbm, 51, rfl⟩
abbrev main_v36 : Ref sig .tc := ⟨.hbm, 52, rfl⟩
abbrev main_cst_0 : Ref sig .tc := ⟨.hbm, 53, rfl⟩
abbrev main_v37 : Ref sig .tc := ⟨.hbm, 54, rfl⟩
abbrev main_c_1 : Ref sig .tc := ⟨.hbm, 55, rfl⟩
abbrev main_call2_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_2 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_call3_cst : Ref sig .tc := ⟨.hbm, 93, rfl⟩
abbrev main_call3_v0 : Ref sig .tc := ⟨.hbm, 94, rfl⟩
abbrev main_v73 : Ref sig .tc := ⟨.hbm, 95, rfl⟩
abbrev main_v74 : Ref sig .tc := ⟨.hbm, 96, rfl⟩
abbrev main_cst_3 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_4 : Ref sig .tc := ⟨.hbm, 102, rfl⟩
abbrev main_v79 : Ref sig .tc := ⟨.hbm, 103, rfl⟩
abbrev main_cst_5 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_6 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_7 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_c_8 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_9 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_values : Ref sig .tc := ⟨.hbm, 133, rfl⟩
abbrev main_indices : Ref sig .tc := ⟨.hbm, 134, rfl⟩
abbrev main_v104 : Ref sig .tc := ⟨.hbm, 135, rfl⟩
abbrev main_c_10 : Ref sig .tc := ⟨.hbm, 136, rfl⟩
abbrev main_c_11 : Ref sig .tc := ⟨.hbm, 137, rfl⟩
abbrev main_call4_v0 : Ref sig .tc := ⟨.hbm, 138, rfl⟩
abbrev main_call4_v1 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_12 : Ref sig .tc := ⟨.hbm, 147, rfl⟩
abbrev main_c_13 : Ref sig .tc := ⟨.hbm, 148, rfl⟩
abbrev main_call5_v0 : Ref sig .tc := ⟨.hbm, 149, rfl⟩
abbrev main_call5_v1 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_14 : Ref sig .tc := ⟨.hbm, 159, rfl⟩
abbrev main_v114 : Ref sig .tc := ⟨.hbm, 160, rfl⟩
abbrev main_c_15 : Ref sig .tc := ⟨.hbm, 161, rfl⟩
abbrev main_v115 : Ref sig .tc := ⟨.hbm, 162, rfl⟩
abbrev main_v116 : Ref sig .tc := ⟨.hbm, 163, rfl⟩
abbrev main_c_16 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_17 : Ref sig .tc := ⟨.hbm, 169, rfl⟩
abbrev main_v121 : Ref sig .tc := ⟨.hbm, 170, rfl⟩
abbrev main_v122 : Ref sig .tc := ⟨.hbm, 171, rfl⟩
abbrev main_cst_18 : Ref sig .tc := ⟨.hbm, 172, rfl⟩
abbrev main_v123 : Ref sig .tc := ⟨.hbm, 173, rfl⟩
abbrev main_v124 : Ref sig .tc := ⟨.hbm, 174, rfl⟩
abbrev main_cst_19 : Ref sig .tc := ⟨.hbm, 175, rfl⟩
abbrev main_v125 : Ref sig .tc := ⟨.hbm, 176, rfl⟩
abbrev main_v126 : Ref sig .tc := ⟨.hbm, 177, rfl⟩
abbrev main_cst_20 : Ref sig .tc := ⟨.hbm, 178, rfl⟩
abbrev main_call6_v0 : Ref sig .tc := ⟨.hbm, 179, rfl⟩
abbrev main_call6_v1 : Ref sig .tc := ⟨.hbm, 180, rfl⟩
abbrev main_v127 : Ref sig .tc := ⟨.hbm, 181, rfl⟩
abbrev main_v128 : Ref sig .tc := ⟨.hbm, 182, rfl⟩
abbrev main_cst_21 : Ref sig .tc := ⟨.hbm, 183, rfl⟩
abbrev main_v129 : Ref sig .tc := ⟨.hbm, 184, rfl⟩
abbrev main_v130 : Ref sig .tc := ⟨.hbm, 185, rfl⟩
abbrev main_cst_22 : Ref sig .tc := ⟨.hbm, 186, rfl⟩
abbrev main_call7_v0 : Ref sig .tc := ⟨.hbm, 187, rfl⟩
abbrev main_call7_v1 : Ref sig .tc := ⟨.hbm, 188, rfl⟩
abbrev main_v131 : Ref sig .tc := ⟨.hbm, 189, rfl⟩
abbrev main_c_23 : Ref sig .tc := ⟨.hbm, 190, rfl⟩
abbrev main_v132 : Ref sig .tc := ⟨.hbm, 191, rfl⟩
abbrev main_v133 : Ref sig .tc := ⟨.hbm, 192, rfl⟩
abbrev main_c_24 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_c_25 : Ref sig .tc := ⟨.hbm, 199, rfl⟩
abbrev main_v139 : Ref sig .tc := ⟨.hbm, 200, rfl⟩
abbrev main_v140 : Ref sig .tc := ⟨.hbm, 201, rfl⟩
abbrev main_c_26 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_cst_27 : Ref sig .tc := ⟨.hbm, 209, rfl⟩
abbrev main_v147 : Ref sig .tc := ⟨.hbm, 210, rfl⟩
abbrev main_v148 : Ref sig .tc := ⟨.hbm, 211, rfl⟩
abbrev main_c_28 : Ref sig .tc := ⟨.hbm, 212, rfl⟩
abbrev main_v149 : Ref sig .tc := ⟨.hbm, 213, rfl⟩
abbrev main_v150 : Ref sig .tc := ⟨.hbm, 214, rfl⟩
abbrev main_c_29 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_c_30 : Ref sig .tc := ⟨.hbm, 223, rfl⟩
abbrev main_v158 : Ref sig .tc := ⟨.hbm, 224, rfl⟩
abbrev main_v159 : Ref sig .tc := ⟨.hbm, 225, rfl⟩
abbrev main_c_31 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_call8_cst : Ref sig .tc := ⟨.hbm, 235, rfl⟩
abbrev main_call8_v0 : Ref sig .tc := ⟨.hbm, 236, rfl⟩
abbrev main_v168 : Ref sig .tc := ⟨.hbm, 237, rfl⟩
abbrev main_v169 : Ref sig .tc := ⟨.hbm, 238, rfl⟩
abbrev main_cst_32 : Ref sig .tc := ⟨.hbm, 239, rfl⟩
abbrev main_v170 : Ref sig .tc := ⟨.hbm, 240, rfl⟩
abbrev main_c_33 : Ref sig .tc := ⟨.hbm, 241, rfl⟩
abbrev main_v171 : Ref sig .tc := ⟨.hbm, 242, rfl⟩
abbrev main_v172 : Ref sig .tc := ⟨.hbm, 243, rfl⟩
abbrev main_c_34 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_cst_35 : Ref sig .tc := ⟨.hbm, 249, rfl⟩
abbrev main_v177 : Ref sig .tc := ⟨.hbm, 250, rfl⟩
abbrev main_v178 : Ref sig .tc := ⟨.hbm, 251, rfl⟩
abbrev main_cst_36 : Ref sig .tc := ⟨.hbm, 252, rfl⟩
abbrev main_v179 : Ref sig .tc := ⟨.hbm, 253, rfl⟩
abbrev main_v180 : Ref sig .tc := ⟨.hbm, 254, rfl⟩
abbrev main_cst_37 : Ref sig .tc := ⟨.hbm, 255, rfl⟩
abbrev main_v181 : Ref sig .tc := ⟨.hbm, 256, rfl⟩
abbrev main_v182 : Ref sig .tc := ⟨.hbm, 257, rfl⟩
abbrev main_cst_38 : Ref sig .tc := ⟨.hbm, 258, rfl⟩
abbrev main_call9_v0 : Ref sig .tc := ⟨.hbm, 259, rfl⟩
abbrev main_call9_v1 : Ref sig .tc := ⟨.hbm, 260, rfl⟩
abbrev main_v183 : Ref sig .tc := ⟨.hbm, 261, rfl⟩
abbrev main_v184 : Ref sig .tc := ⟨.hbm, 262, rfl⟩
abbrev main_cst_39 : Ref sig .tc := ⟨.hbm, 263, rfl⟩
abbrev main_v185 : Ref sig .tc := ⟨.hbm, 264, rfl⟩
abbrev main_v186 : Ref sig .tc := ⟨.hbm, 265, rfl⟩
abbrev main_cst_40 : Ref sig .tc := ⟨.hbm, 266, rfl⟩
abbrev main_call10_v0 : Ref sig .tc := ⟨.hbm, 267, rfl⟩
abbrev main_call10_v1 : Ref sig .tc := ⟨.hbm, 268, rfl⟩
abbrev main_v187 : Ref sig .tc := ⟨.hbm, 269, rfl⟩
abbrev main_c_41 : Ref sig .tc := ⟨.hbm, 270, rfl⟩
abbrev main_v188 : Ref sig .tc := ⟨.hbm, 271, rfl⟩
abbrev main_v189 : Ref sig .tc := ⟨.hbm, 272, rfl⟩
abbrev main_c_42 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_c_43 : Ref sig .tc := ⟨.hbm, 279, rfl⟩
abbrev main_v195 : Ref sig .tc := ⟨.hbm, 280, rfl⟩
abbrev main_v196 : Ref sig .tc := ⟨.hbm, 281, rfl⟩
abbrev main_c_44 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_cst_45 : Ref sig .tc := ⟨.hbm, 289, rfl⟩
abbrev main_v203 : Ref sig .tc := ⟨.hbm, 290, rfl⟩
abbrev main_v204 : Ref sig .tc := ⟨.hbm, 291, rfl⟩
abbrev main_c_46 : Ref sig .tc := ⟨.hbm, 292, rfl⟩
abbrev main_v205 : Ref sig .tc := ⟨.hbm, 293, rfl⟩
abbrev main_v206 : Ref sig .tc := ⟨.hbm, 294, rfl⟩
abbrev main_c_47 : Ref sig .tc := ⟨.hbm, 295, rfl⟩
abbrev main_v207 : Ref sig .tc := ⟨.hbm, 296, rfl⟩
abbrev main_v208 : Ref sig .tc := ⟨.hbm, 297, rfl⟩
abbrev main_v209 : Ref sig .tc := ⟨.hbm, 298, rfl⟩
abbrev main_v210 : Ref sig .tc := ⟨.hbm, 299, rfl⟩
abbrev main_v211 : Ref sig .tc := ⟨.hbm, 300, rfl⟩
abbrev main_v212 : Ref sig .tc := ⟨.hbm, 301, rfl⟩
abbrev main_v213 : Ref sig .tc := ⟨.hbm, 302, rfl⟩
abbrev main_c_48 : Ref sig .tc := ⟨.hbm, 303, rfl⟩
abbrev main_v214 : Ref sig .tc := ⟨.hbm, 304, rfl⟩
abbrev main_v215 : Ref sig .tc := ⟨.hbm, 305, rfl⟩
abbrev main_c_49 : Ref sig .tc := ⟨.hbm, 306, rfl⟩
abbrev main_v216 : Ref sig .tc := ⟨.hbm, 307, rfl⟩
abbrev main_v217 : Ref sig .tc := ⟨.hbm, 308, rfl⟩
abbrev main_v218 : Ref sig .tc := ⟨.hbm, 309, rfl⟩
abbrev main_v219 : Ref sig .tc := ⟨.hbm, 310, rfl⟩
abbrev main_v220 : Ref sig .tc := ⟨.hbm, 311, rfl⟩
abbrev main_v221 : Ref sig .tc := ⟨.hbm, 312, rfl⟩
abbrev main_v222 : Ref sig .tc := ⟨.hbm, 313, rfl⟩
abbrev main_v223 : Ref sig .tc := ⟨.hbm, 314, rfl⟩
abbrev main_call11_cst : Ref sig .tc := ⟨.hbm, 315, rfl⟩
abbrev main_call11_v0 : Ref sig .tc := ⟨.hbm, 316, rfl⟩
abbrev main_v224 : Ref sig .tc := ⟨.hbm, 317, rfl⟩
abbrev main_v225 : Ref sig .tc := ⟨.hbm, 318, rfl⟩
abbrev main_cst_50 : Ref sig .tc := ⟨.hbm, 319, rfl⟩
abbrev main_v226 : Ref sig .tc := ⟨.hbm, 320, rfl⟩
abbrev main_cst_51 : Ref sig .tc := ⟨.hbm, 321, rfl⟩
abbrev main_v227 : Ref sig .tc := ⟨.hbm, 322, rfl⟩
abbrev main_v228 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_v232 : Ref sig .tc := ⟨.hbm, 327, rfl⟩

abbrev nD : Nat := 1
abbrev τ : Topo := Topo.v7x

variable {F : FTy → Type} [FloatOps F]
-- ==== Proof.Setup.lean ====
/- The launch's set-up for the idealized kernel: when each branch of the body is taken, the staging memrefs the body
   is called with, the scratch buffers, and the frame read off a run stated by relational proof data. -/
module

public import proofs.«01_k».proof.Proof.Gen.KernelIdeal.Frame
public import Idealize.ShloMosaic.Lib.Pipeline.DatRel
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 16 — decided over the grid. -/
theorem hcond0_0 : ∀ t : Fin cfg0.N, cond0_0 (grid0.coords t) ↔ t.val < 16 :=
  (by decide +kernel : ∀ t : Fin grid0.N, cond0_0 (grid0.coords t) ↔ t.val < 16)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the first point only — by arithmetic of the point. -/
theorem hcond0_1 : ∀ t : Fin cfg0.N, cond0_1 (grid0.coords t) ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [cond0_1, e0]
    word_cmp
   : ∀ t : Fin grid0.N, cond0_1 (grid0.coords t) ↔ t.val % 17 = 0)

/-- The condition of the body's `scf.if` 2 (`k0_h3`), from the grid coordinates (the skeleton's scalar
    chain substituted). -/
abbrev cond0_2 (i : grid0.Coords) : Prop := (Scalar.cmpi .ne (Scalar.extui (Scalar.cmpi .sgt (BitVec.ofNat 32 (i 0).val) 0#32)) 0#32) = 1#1
/-- It holds at the points from point 1 on — decided over the grid. -/
theorem hcond0_2 : ∀ t : Fin cfg0.N, cond0_2 (grid0.coords t) ↔ 1 ≤ t.val :=
  (by decide +kernel : ∀ t : Fin grid0.N, cond0_2 (grid0.coords t) ↔ 1 ≤ t.val)

/-- The condition of the body's `scf.if` 3 (`k0_h4`), from the grid coordinates (the skeleton's scalar
    chain substituted). -/
abbrev cond0_3 (i : grid0.Coords) : Prop := (Scalar.cmpi .ne (Scalar.extui (Scalar.cmpi .eq (BitVec.ofNat 32 (i 0).val) 15#32)) 0#32) = 1#1
/-- It holds at point 15 only — by arithmetic of the point. -/
theorem hcond0_3 : ∀ t : Fin cfg0.N, cond0_3 (grid0.coords t) ↔ t.val % 17 = 15 :=
  (fun t => by
    have ht : t.val < 17 := Nat.lt_of_lt_of_eq t.isLt N_0
    have e0 : (grid0.coords t 0).val = t.val / 1 % 17 := Pipeline.Grid.coords_val t 0 (by decide) rfl
    simp only [cond0_3, e0]
    word_cmp
   : ∀ t : Fin grid0.N, cond0_3 (grid0.coords t) ↔ t.val % 17 = 15)

/-- The condition of the body's `scf.if` 4 (`k0_h5`), from the grid coordinates (the skeleton's scalar
    chain substituted). -/
abbrev cond0_4 (i : grid0.Coords) : Prop := k0_cond5 i = 1#1
/-- It holds at the points before point 15 — decided over the grid. -/
theorem hcond0_4 : ∀ t : Fin cfg0.N, cond0_4 (grid0.coords t) ↔ t.val < 15 :=
  (by decide +kernel : ∀ t : Fin grid0.N, cond0_4 (grid0.coords t) ↔ t.val < 15)

/-- The condition of the body's `scf.if` 5 (`k0_h6`), from the grid coordinates (the skeleton's scalar
    chain substituted). -/
abbrev cond0_5 (i : grid0.Coords) : Prop := k0_cond6 i = 1#1
/-- It holds at the last point only — by arithmetic of the point. -/
theorem hcond0_5 : ∀ t : Fin cfg0.N, cond0_5 (grid0.coords t) ↔ t.val % 17 = 16 :=
  (fun t => by
    have ht : t.val < 17 := Nat.lt_of_lt_of_eq t.isLt N_0
    have e0 : (grid0.coords t 0).val = t.val / 1 % 17 := Pipeline.Grid.coords_val t 0 (by decide) rfl
    simp only [cond0_5, k0_cond6, e0]
    word_cmp
   : ∀ t : Fin grid0.N, cond0_5 (grid0.coords t) ↔ t.val % 17 = 16)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5x128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5x128x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x64 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x64 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S512x32 .f32 := Memref.whole cc0_scratch0
abbrev scM0_1 : Memref sig .tc .vmem S512x32 .f32 := Memref.whole cc0_scratch1
abbrev scM0_2 : Memref sig .tc .vmem S512x256 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The eleven inputs' staging memrefs, each at its contents. -/
def ins (c : Dev nD)
    (arg1 : Memref sig .tc .vmem S128x2048 .f32)    (arg2 : Memref sig .tc .vmem S5x128x128 .bf16)    (arg3 : Memref sig .tc .vmem S1x128 .f32)
    (arg4 : Memref sig .tc .vmem S5x128x256 .bf16)    (arg5 : Memref sig .tc .vmem S1x256 .f32)    (arg6 : Memref sig .tc .vmem S32x256 .bf16)
    (arg7 : Memref sig .tc .vmem S1x256 .f32)    (arg8 : Memref sig .tc .vmem S256x256 .bf16)    (arg9 : Memref sig .tc .vmem S1x256 .f32)
    (arg10 : Memref sig .tc .vmem S256x64 .bf16)    (arg11 : Memref sig .tc .vmem S1x64 .f32)
    (x0 : Vec F S128x2048 .f32) (x1 : Vec F S5x128x128 .bf16) (x2 : Vec F S1x128 .f32) (x3 : Vec F S5x128x256 .bf16) (x4 : Vec F S1x256 .f32) (x5 : Vec F S32x256 .bf16) (x6 : Vec F S1x256 .f32) (x7 : Vec F S256x256 .bf16) (x8 : Vec F S1x256 .f32) (x9 : Vec F S256x64 .bf16) (x10 : Vec F S1x64 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10)

end Cert.KernelIdeal.Hand

end
-- ==== Proof.Stage.lean ====
/- What one step of the idealized kernel computes, as pure functions of the blocks it reads: the two convolutions with
   their pooling, the running mean with its compensation, the graph read off the mean, the two graph-convolution layers
   of a batch and the row of the result a batch gives.  Every function is stated at any float model. -/
module

public import proofs.«01_k».proof.Proof.Setup
public import Idealize.ShloMosaic.Lib.Pipeline.Value
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable {F : FTy → Type} [FloatOps F] [Named F]

/-! ## Convolutions -/

/-- The rows of the transposed block whose time is `o` modulo four. -/
def phase (x : Vec F S128x2048 .f32) (o : ℕ) (h : S512x4x128.Slices ![0, o, 0] S512x1x128) : FVec F S512x128 .bf16 :=
  shapeCast S512x128 (extractStridedSlice S512x1x128 ![0, o, 0] (k0_pay20 x) h) shapeCasts_S512x1x128_S512x128

/-- The rows moved one later, a zero row first. -/
def up (a : FVec F S512x128 .bf16) : FVec F S512x128 .bf16 :=
  concatenate S512x128 0 [⟨S1x128, broadcast S1x128 (Scalar.ofBits .bf16 0x0000#16)⟩,
    ⟨S511x128, extractStridedSlice S511x128 ![0, 0] a slices_S512x128_o0_0_S511x128⟩]
    concatenates_S1x128_S511x128_S512x128_d0

/-- The rows moved one earlier, a zero row last. -/
def dn (a : FVec F S512x128 .bf16) : FVec F S512x128 .bf16 :=
  concatenate S512x128 0 [⟨S511x128, extractStridedSlice S511x128 ![1, 0] a slices_S512x128_o1_0_S511x128⟩,
    ⟨S1x128, broadcast S1x128 (Scalar.ofBits .bf16 0x0000#16)⟩]
    concatenates_S511x128_S1x128_S512x128_d0

/-- Tap `o` of the first layer's stacked weights. -/
def tap1 (w : Vec F S5x128x128 .bf16) (o : ℕ)
    (h : ∀ a, (![o, 0, 0] : Fin 3 → Nat) a + S1x128x128.size a ≤ S5x128x128.size a) : FVec F S128x128 .bf16 :=
  shapeCast S128x128 (View.ld w (Rect.unit (s := S5x128x128) ![o, 0, 0] S1x128x128.size h) :
    Vec F S1x128x128 .bf16) shapeCasts_S1x128x128_S128x128

/-- Tap `o` of the second layer's stacked weights. -/
def tap2 (w : Vec F S5x128x256 .bf16) (o : ℕ)
    (h : ∀ a, (![o, 0, 0] : Fin 3 → Nat) a + S1x128x256.size a ≤ S5x128x256.size a) : FVec F S128x256 .bf16 :=
  shapeCast S128x256 (View.ld w (Rect.unit (s := S5x128x256) ![o, 0, 0] S1x128x256.size h) :
    Vec F S1x128x256 .bf16) shapeCasts_S1x128x256_S128x256

/-- One product of the first layer. -/
def dot1 (a : FVec F S512x128 .bf16) (w : FVec F S128x128 .bf16) : FVec F S512x128 .f32 :=
  matmul dot_S512x128_S128x128_S512x128_1_0_0_1_n_n none a w (constant S512x128 .f32 0x00000000#32)

/-- One product of the second layer. -/
def dot2 (a : FVec F S512x128 .bf16) (w : FVec F S128x256 .bf16) : FVec F S512x256 .f32 :=
  matmul dot_S512x128_S128x256_S512x256_1_0_0_1_n_n none a w (constant S512x256 .f32 0x00000000#32)

/-- The first layer before its bias at one phase: five shifted blocks against the five taps. -/
def conv1 (a0 a1 a2 a3 a4 : FVec F S512x128 .bf16) (w : Vec F S5x128x128 .bf16) : FVec F S512x128 .f32 :=
  addf (addf (addf (addf (dot1 a0 (tap1 w 0 inb_S5x128x128_S1x128x128_0_0_0))
    (dot1 a1 (tap1 w 1 inb_S5x128x128_S1x128x128_1_0_0))) (dot1 a2 (tap1 w 2 inb_S5x128x128_S1x128x128_2_0_0)))
    (dot1 a3 (tap1 w 3 inb_S5x128x128_S1x128x128_3_0_0))) (dot1 a4 (tap1 w 4 inb_S5x128x128_S1x128x128_4_0_0))

/-- The second layer before its bias at one phase. -/
def conv2 (a0 a1 a2 a3 a4 : FVec F S512x128 .bf16) (w : Vec F S5x128x256 .bf16) : FVec F S512x256 .f32 :=
  addf (addf (addf (addf (dot2 a0 (tap2 w 0 inb_S5x128x256_S1x128x256_0_0_0))
    (dot2 a1 (tap2 w 1 inb_S5x128x256_S1x128x256_1_0_0))) (dot2 a2 (tap2 w 2 inb_S5x128x256_S1x128x256_2_0_0)))
    (dot2 a3 (tap2 w 3 inb_S5x128x256_S1x128x256_3_0_0))) (dot2 a4 (tap2 w 4 inb_S5x128x256_S1x128x256_4_0_0))

/-- Two neighbouring phases pooled by their maximum, with bias, cut at zero, rounded. -/
def pool1 (c d : FVec F S512x128 .f32) (b : Vec F S1x128 .f32) : FVec F S512x128 .bf16 :=
  truncf .bf16 (maximumf (addf (maximumf c d)
    (broadcastTo S512x128 (shapeCast S1x128 b shapeCasts_S1x128_S1x128 : FVec F S1x128 .f32) broadcasts_S1x128_S512x128))
    (broadcast S512x128 (Scalar.ofBits .f32 0x00000000#32))) bitsLt_bf16_f32

/-- The four phases of a block of batches. -/
def ph0 (x : Vec F S128x2048 .f32) : FVec F S512x128 .bf16 := phase x 0 slices_S512x4x128_o0_0_0_S512x1x128
@[inherit_doc ph0] def ph1 (x : Vec F S128x2048 .f32) : FVec F S512x128 .bf16 := phase x 1 slices_S512x4x128_o0_1_0_S512x1x128
@[inherit_doc ph0] def ph2 (x : Vec F S128x2048 .f32) : FVec F S512x128 .bf16 := phase x 2 slices_S512x4x128_o0_2_0_S512x1x128
@[inherit_doc ph0] def ph3 (x : Vec F S128x2048 .f32) : FVec F S512x128 .bf16 := phase x 3 slices_S512x4x128_o0_3_0_S512x1x128

/-- The pooled first layer at the even times. -/
def hEven (x : Vec F S128x2048 .f32) (w : Vec F S5x128x128 .bf16) (b : Vec F S1x128 .f32) : FVec F S512x128 .bf16 :=
  pool1 (conv1 (up (ph2 x)) (up (ph3 x)) (ph0 x) (ph1 x) (ph2 x) w)
    (conv1 (up (ph3 x)) (ph0 x) (ph1 x) (ph2 x) (ph3 x) w) b

/-- The pooled first layer at the odd times. -/
def hOdd (x : Vec F S128x2048 .f32) (w : Vec F S5x128x128 .bf16) (b : Vec F S1x128 .f32) : FVec F S512x128 .bf16 :=
  pool1 (conv1 (ph0 x) (ph1 x) (ph2 x) (ph3 x) (dn (ph0 x)) w)
    (conv1 (ph1 x) (ph2 x) (ph3 x) (dn (ph0 x)) (dn (ph1 x)) w) b

/-- The second layer from the two halves of the first. -/
def second (e o : FVec F S512x128 .bf16) (w : Vec F S5x128x256 .bf16) (b : Vec F S1x256 .f32) : FVec F S512x256 .f32 :=
  maximumf (addf (maximumf (conv2 (up e) (up o) e o (dn e) w) (conv2 (up o) e o (dn e) (dn o) w))
    (broadcastTo S512x256 (shapeCast S1x256 b shapeCasts_S1x256_S1x256 : FVec F S1x256 .f32) broadcasts_S1x256_S512x256))
    (broadcast S512x256 (Scalar.ofBits .f32 0x00000000#32))

/-- The node features of a block of eight batches. -/
def feats (x : Vec F S128x2048 .f32) (w1 : Vec F S5x128x128 .bf16) (b1 : Vec F S1x128 .f32) (w2 : Vec F S5x128x256 .bf16)
    (b2 : Vec F S1x256 .f32) : FVec F S512x256 .f32 :=
  second (hEven x w1 b1) (hOdd x w1 b1) w2 b2

/-! ## The mean over batches -/

/-- What a block of batches adds to the mean. -/
def share (h : FVec F S512x256 .f32) : FVec F S512x32 .f32 :=
  mulf (multiReduction .add [1] S512x32 (shapeCast S512x8x32 h shapeCasts_S512x256_S512x8x32 : FVec F S512x8x32 .f32)
    0x00000000#32 reduces_S512x8x32_S512x32 (.inl rfl) rfl) (broadcast S512x32 (Scalar.ofBits .f32 0x3C000000#32))

/-- The compensation before the first block: zero. -/
def comp0 : FVec F S512x32 .f32 := broadcast S512x32 (Scalar.ofBits .f32 0x00000000#32)

/-- The mean after one more block. -/
def meanStep (p mean comp : FVec F S512x32 .f32) : FVec F S512x32 .f32 := addf mean (subf p comp)

/-- The compensation after one more block. -/
def compStep (p mean comp : FVec F S512x32 .f32) : FVec F S512x32 .f32 :=
  subf (subf (meanStep p mean comp) mean) (subf p comp)

/-! ## A batch through the two layers -/

/-- The 32 features of the batch at column `o`. -/
def cols (h : FVec F S512x256 .bf16) (o : ℕ) (hs : S512x256.Slices ![0, o] S512x32) : FVec F S512x32 .bf16 :=
  extractStridedSlice S512x32 ![0, o] h hs

/-- The first layer's product. -/
def lin1 (f : FVec F S512x32 .bf16) (W : Vec F S32x256 .bf16) : FVec F S512x256 .f32 :=
  matmul dot_S512x32_S32x256_S512x256_1_0_0_1_n_n none f
    (shapeCast S32x256 W shapeCasts_S32x256_S32x256 : FVec F S32x256 .bf16) (constant S512x256 .f32 0x00000000#32)

/-- The second layer's product. -/
def lin2 (f : FVec F S512x256 .bf16) (W : Vec F S256x256 .bf16) : FVec F S512x256 .f32 :=
  matmul dot_S512x256_S256x256_S512x256_1_0_0_1_n_n none f
    (shapeCast S256x256 W shapeCasts_S256x256_S256x256 : FVec F S256x256 .bf16) (constant S512x256 .f32 0x00000000#32)

/-- A bias added, cut at zero. -/
def biasRelu (z : FVec F S512x256 .f32) (b : Vec F S1x256 .f32) : FVec F S512x256 .f32 :=
  maximumf (addf z (broadcastTo S512x256 (shapeCast S1x256 b shapeCasts_S1x256_S1x256 : FVec F S1x256 .f32)
    broadcasts_S1x256_S512x256)) (broadcast S512x256 (Scalar.ofBits .f32 0x00000000#32))

/-- The mean over the nodes, as a row. -/
def nodeMean (z : FVec F S512x256 .f32) : FVec F S1x256 .f32 :=
  mulf (shapeCast S1x256 (multiReduction .add [0] S256 z 0x00000000#32 reduces_S512x256_S256 (.inl rfl) rfl :
    FVec F S256 .f32) shapeCasts_S256_S1x256) (broadcast S1x256 (Scalar.ofBits .f32 0x3B000000#32))

/-- A batch outside the graph: both layers mix no nodes. -/
def plainRow (f : FVec F S512x32 .bf16) (W1 : Vec F S32x256 .bf16) (b1 : Vec F S1x256 .f32) (W2 : Vec F S256x256 .bf16)
    (b2 : Vec F S1x256 .f32) : FVec F S1x256 .f32 :=
  nodeMean (biasRelu (lin2 (truncf .bf16 (biasRelu (lin1 f W1) b1) bitsLt_bf16_f32) W2) b2)

/-- Nodes mixed by the matrix of the graph. -/
def mix (M : FVec F S512x512 .f32) (z : FVec F S512x256 .f32) : FVec F S512x256 .f32 :=
  matmul dot_S512x512_S512x256_S512x256_1_0_0_1_n_n (some .fp32) M z (constant S512x256 .f32 0x00000000#32)

/-- The batch of the graph: both layers mix the nodes. -/
def graphRow (M : FVec F S512x512 .f32) (f : FVec F S512x32 .bf16) (W1 : Vec F S32x256 .bf16) (b1 : Vec F S1x256 .f32)
    (W2 : Vec F S256x256 .bf16) (b2 : Vec F S1x256 .f32) : FVec F S1x256 .f32 :=
  nodeMean (biasRelu (mix M (lin2 (truncf .bf16 (biasRelu (mix M (lin1 f W1)) b1) bitsLt_bf16_f32) W2)) b2)

/-- Eight rows put together and sent through the last linear map. -/
def head (r0 r1 r2 r3 r4 r5 r6 r7 : FVec F S1x256 .f32) (fw : Vec F S256x64 .bf16) (fb : Vec F S1x64 .f32) :
    FVec F S8x64 .f32 :=
  addf (matmul dot_S8x256_S256x64_S8x64_1_0_0_1_n_n none (truncf .bf16 (concatenate S8x256 0
      [⟨S1x256, r0⟩, ⟨S1x256, r1⟩, ⟨S1x256, r2⟩, ⟨S1x256, r3⟩, ⟨S1x256, r4⟩, ⟨S1x256, r5⟩, ⟨S1x256, r6⟩, ⟨S1x256, r7⟩]
      concatenates_S1x256_S1x256_S1x256_S1x256_S1x256_S1x256_S1x256_S1x256_S8x256_d0 : FVec F S8x256 .f32) bitsLt_bf16_f32)
      (shapeCast S256x64 fw shapeCasts_S256x64_S256x64 : FVec F S256x64 .bf16) (constant S8x64 .f32 0x00000000#32))
    (broadcastTo S8x64 (shapeCast S1x64 fb shapeCasts_S1x64_S1x64 : FVec F S1x64 .f32) broadcasts_S1x64_S8x64)

/-- The result of a block with its first row given: the other seven batches lie outside the graph. -/
def headWith (r0 : FVec F S1x256 .f32) (h : FVec F S512x256 .bf16) (W1 : Vec F S32x256 .bf16) (b1 : Vec F S1x256 .f32)
    (W2 : Vec F S256x256 .bf16) (b2 : Vec F S1x256 .f32) (fw : Vec F S256x64 .bf16) (fb : Vec F S1x64 .f32) :
    FVec F S8x64 .f32 :=
  head r0 (plainRow (cols h 32 slices_S512x256_o0_32_S512x32) W1 b1 W2 b2)
    (plainRow (cols h 64 slices_S512x256_o0_64_S512x32) W1 b1 W2 b2)
    (plainRow (cols h 96 slices_S512x256_o0_96_S512x32) W1 b1 W2 b2)
    (plainRow (cols h 128 slices_S512x256_o0_128_S512x32) W1 b1 W2 b2)
    (plainRow (cols h 160 slices_S512x256_o0_160_S512x32) W1 b1 W2 b2)
    (plainRow (cols h 192 slices_S512x256_o0_192_S512x32) W1 b1 W2 b2)
    (plainRow (cols h 224 slices_S512x256_o0_224_S512x32) W1 b1 W2 b2) fw fb

/-- A block of eight batches outside the graph. -/
def plainBlock (h : FVec F S512x256 .f32) (W1 : Vec F S32x256 .bf16) (b1 : Vec F S1x256 .f32)
    (W2 : Vec F S256x256 .bf16) (b2 : Vec F S1x256 .f32) (fw : Vec F S256x64 .bf16) (fb : Vec F S1x64 .f32) :
    FVec F S8x64 .f32 :=
  headWith (plainRow (cols (truncf .bf16 h bitsLt_bf16_f32) 0 slices_S512x256_o0_0_S512x32) W1 b1 W2 b2)
    (truncf .bf16 h bitsLt_bf16_f32) W1 b1 W2 b2 fw fb

/-! ## The graph -/

/-- The squared distances of the nodes, a large number added on the diagonal. -/
def dist0 (mean : FVec F S512x32 .f32) : FVec F S512x512 .f32 := k0_pay57 mean

/-- The column number. -/
def colNo : IVec S512x512 32 := iota .tc S512x512 32 [1] iota_S512x512_d1_w32

/-- Where a row's first least entry stands. -/
def firstLeast (d : FVec F S512x512 .f32) : IVec S512x512 1 :=
  cmpi .eq colNo (broadcastTo S512x512 (shapeCast S512x1 (multiReductionI .minsi [1] S512
    (select (cmpf .oeq d (broadcastTo S512x512 (shapeCast S512x1 (multiReduction .minimumf [1] S512 d 0x7F800000#32
        reduces_S512x512_S512 (.inl rfl) rfl : FVec F S512 .f32) shapeCasts_S512_S512x1 : FVec F S512x1 .f32)
        broadcasts_S512x1_S512x512 : FVec F S512x512 .f32)) colNo (broadcast S512x512 (1073741824#32 : BitVec 32)) : IVec S512x512 32)
    2147483647#32 reduces_S512x512_S512 rfl : IVec S512 32) shapeCasts_S512_S512x1 : IVec S512x1 32)
    broadcasts_S512x1_S512x512)

/-- The distances with each row's first least entry taken out. -/
def distStep (d : FVec F S512x512 .f32) : FVec F S512x512 .f32 :=
  select (firstLeast d) (broadcast S512x512 (Named.named κ "taken" 0x7F61B1E6#32)) d

/-- One where a row's first least entry stands, added. -/
def hitStep (d M : FVec F S512x512 .f32) : FVec F S512x512 .f32 :=
  addf M (select (firstLeast d) (broadcast S512x512 (Scalar.ofBits .f32 0x3F800000#32))
    (broadcast S512x512 (Scalar.ofBits .f32 0x00000000#32)))

/-- The distances after `n` rounds. -/
def distN (mean : FVec F S512x32 .f32) : ℕ → FVec F S512x512 .f32
  | 0 => dist0 mean
  | n + 1 => distStep (distN mean n)

/-- The diagonal and the entries found in `n` rounds. -/
def hitsN (mean : FVec F S512x32 .f32) : ℕ → FVec F S512x512 .f32
  | 0 => select (cmpi .eq (iota .tc S512x512 32 [0] iota_S512x512_d0_w32) colNo)
      (broadcast S512x512 (Scalar.ofBits .f32 0x3F800000#32)) (broadcast S512x512 (Scalar.ofBits .f32 0x00000000#32))
  | n + 1 => hitStep (distN mean n) (hitsN mean n)

/-- The matrix of the graph: eight neighbours and the node itself, each weighted by a third times a third. -/
def graph (mean : FVec F S512x32 .f32) : FVec F S512x512 .f32 :=
  mulf (hitsN mean 8) (broadcastTo S512x512 (mulf (broadcast S1x1 (Named.named κ "third" 0x3EAAAAAB#32))
    (broadcast S1x1 (Named.named κ "third" 0x3EAAAAAB#32)) : FVec F S1x1 .f32) broadcasts_S1x1_S512x512)

/-- The first block of eight batches: its first batch is mixed by the graph. -/
def graphBlock (mean : FVec F S512x32 .f32) (h : FVec F S512x256 .f32) (W1 : Vec F S32x256 .bf16) (b1 : Vec F S1x256 .f32)
    (W2 : Vec F S256x256 .bf16) (b2 : Vec F S1x256 .f32) (fw : Vec F S256x64 .bf16) (fb : Vec F S1x64 .f32) :
    FVec F S8x64 .f32 :=
  headWith (graphRow (graph mean) (cols (truncf .bf16 h bitsLt_bf16_f32) 0 slices_S512x256_o0_0_S512x32) W1 b1 W2 b2)
    (truncf .bf16 h bitsLt_bf16_f32) W1 b1 W2 b2 fw fb

/-! ## Whole loads -/

private theorem zero2 : (![0, 0] : Fin 2 → ℕ) = fun _ => 0 := by funext a; fin_cases a <;> rfl

/-- The whole of a 128 by 2048 block loaded is the block. -/
theorem ld_128x2048 {e : EltTy} (x : Vec F S128x2048 e) (h : ∀ a, (![0, 0] : Fin 2 → Nat) a + S128x2048.size a ≤ S128x2048.size a) :
    View.ld x (Rect.unit (s := S128x2048) ![0, 0] ![128, 2048] h) = x := View.ld_unit_zero zero2 h x

/-- The whole of a 1 by 128 block loaded is the block. -/
theorem ld_1x128 {e : EltTy} (x : Vec F S1x128 e) (h : ∀ a, (![0, 0] : Fin 2 → Nat) a + S1x128.size a ≤ S1x128.size a) :
    View.ld x (Rect.unit (s := S1x128) ![0, 0] ![1, 128] h) = x := View.ld_unit_zero zero2 h x

/-- The whole of a 1 by 256 block loaded is the block. -/
theorem ld_1x256 {e : EltTy} (x : Vec F S1x256 e) (h : ∀ a, (![0, 0] : Fin 2 → Nat) a + S1x256.size a ≤ S1x256.size a) :
    View.ld x (Rect.unit (s := S1x256) ![0, 0] ![1, 256] h) = x := View.ld_unit_zero zero2 h x

/-- The whole of a 32 by 256 block loaded is the block. -/
theorem ld_32x256 {e : EltTy} (x : Vec F S32x256 e) (h : ∀ a, (![0, 0] : Fin 2 → Nat) a + S32x256.size a ≤ S32x256.size a) :
    View.ld x (Rect.unit (s := S32x256) ![0, 0] ![32, 256] h) = x := View.ld_unit_zero zero2 h x

/-- The whole of a 256 by 256 block loaded is the block. -/
theorem ld_256x256 {e : EltTy} (x : Vec F S256x256 e) (h : ∀ a, (![0, 0] : Fin 2 → Nat) a + S256x256.size a ≤ S256x256.size a) :
    View.ld x (Rect.unit (s := S256x256) ![0, 0] ![256, 256] h) = x := View.ld_unit_zero zero2 h x

/-- The whole of a 256 by 64 block loaded is the block. -/
theorem ld_256x64 {e : EltTy} (x : Vec F S256x64 e) (h : ∀ a, (![0, 0] : Fin 2 → Nat) a + S256x64.size a ≤ S256x64.size a) :
    View.ld x (Rect.unit (s := S256x64) ![0, 0] ![256, 64] h) = x := View.ld_unit_zero zero2 h x

/-- The whole of a 1 by 64 block loaded is the block. -/
theorem ld_1x64 {e : EltTy} (x : Vec F S1x64 e) (h : ∀ a, (![0, 0] : Fin 2 → Nat) a + S1x64.size a ≤ S1x64.size a) :
    View.ld x (Rect.unit (s := S1x64) ![0, 0] ![1, 64] h) = x := View.ld_unit_zero zero2 h x

/-- The whole of a 512 by 32 block loaded is the block. -/
theorem ld_512x32 {e : EltTy} (x : Vec F S512x32 e) (h : ∀ a, (![0, 0] : Fin 2 → Nat) a + S512x32.size a ≤ S512x32.size a) :
    View.ld x (Rect.unit (s := S512x32) ![0, 0] ![512, 32] h) = x := View.ld_unit_zero zero2 h x

/-- The whole of a 512 by 256 block loaded is the block. -/
theorem ld_512x256 {e : EltTy} (x : Vec F S512x256 e) (h : ∀ a, (![0, 0] : Fin 2 → Nat) a + S512x256.size a ≤ S512x256.size a) :
    View.ld x (Rect.unit (s := S512x256) ![0, 0] ![512, 256] h) = x := View.ld_unit_zero zero2 h x

end Cert.KernelIdeal.Hand

end
-- ==== Proof.RunA.lean ====
/- The first step: the second block of batches is computed, the mean starts at its share and the compensation at zero. -/
module

public import proofs.«01_k».proof.Proof.Stage
public import Idealize.ShloMosaic.Lib.Tactic
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The first step: the second block of batches is computed, the mean starts at its share and the compensation at zero. -/
theorem runA (c : Dev nD) (i : grid0.Coords)
    (arg1 : Memref sig .tc .vmem S128x2048 .f32) (harg1 : arg1.IsWhole)
    (arg2 : Memref sig .tc .vmem S5x128x128 .bf16) (harg2 : arg2.IsWhole)
    (arg3 : Memref sig .tc .vmem S1x128 .f32) (harg3 : arg3.IsWhole)
    (arg4 : Memref sig .tc .vmem S5x128x256 .bf16) (harg4 : arg4.IsWhole)
    (arg5 : Memref sig .tc .vmem S1x256 .f32) (harg5 : arg5.IsWhole)
    (arg6 : Memref sig .tc .vmem S32x256 .bf16) (harg6 : arg6.IsWhole)
    (arg7 : Memref sig .tc .vmem S1x256 .f32) (harg7 : arg7.IsWhole)
    (arg8 : Memref sig .tc .vmem S256x256 .bf16) (harg8 : arg8.IsWhole)
    (arg9 : Memref sig .tc .vmem S1x256 .f32) (harg9 : arg9.IsWhole)
    (arg10 : Memref sig .tc .vmem S256x64 .bf16) (harg10 : arg10.IsWhole)
    (arg11 : Memref sig .tc .vmem S1x64 .f32) (harg11 : arg11.IsWhole)
    (arg12 : Memref sig .tc .vmem S8x64 .f32) (harg12 : arg12.IsWhole)
    (arg13 : Memref sig .tc .vmem S512x32 .f32) (harg13 : arg13.IsWhole)
    (arg14 : Memref sig .tc .vmem S512x32 .f32) (harg14 : arg14.IsWhole)
    (arg15 : Memref sig .tc .vmem S512x256 .f32) (harg15 : arg15.IsWhole)
    (hc0 : cond0_0 i) (hc1 : cond0_1 i) (hc2 : ¬cond0_2 i) (hc3 : ¬cond0_3 i) (hc4 : cond0_4 i) (hc5 : ¬cond0_5 i)
    (x0 : Vec F S128x2048 .f32) (x1 : Vec F S5x128x128 .bf16) (x2 : Vec F S1x128 .f32) (x3 : Vec F S5x128x256 .bf16) (x4 : Vec F S1x256 .f32) (x5 : Vec F S32x256 .bf16) (x6 : Vec F S1x256 .f32) (x7 : Vec F S256x256 .bf16) (x8 : Vec F S1x256 .f32) (x9 : Vec F S256x64 .bf16) (x10 : Vec F S1x64 .f32) (E : Set ℕ) (K : PUnit → sProp 𝕄) :
    iprop(ins c arg1 arg2 arg3 arg4 arg5 arg6 arg7 arg8 arg9 arg10 arg11 x0 x1 x2 x3 x4 x5 x6 x7 x8 x9 x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(ins c arg1 arg2 arg3 arg4 arg5 arg6 arg7 arg8 arg9 arg10 arg11 x0 x1 x2 x3 x4 x5 x6 x7 x8 x9 x10 ∗ owns (c : Thread nD τ) arg12 fullShare (plainBlock (feats x0 x1 x2 x3 x4) x5 x6 x7 x8 x9 x10) ∗ owns (c : Thread nD τ) arg13 fullShare (share (feats x0 x1 x2 x3 x4)) ∗ owns (c : Thread nD τ) arg14 fullShare comp0 ∗ (∃ d, owns (c : Thread nD τ) arg15 fullShare d)) -∗ K ⟨⟩))
      ⊢ wp frame (wpE (defs₀ (F := F)) Variants.none c none) E (cc0__mega_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__mega_body_eq_skeleton]; unfold cc0__mega_body_skel
  simp only [k0_part6_eq_skeleton, k0_part7_eq_skeleton, k0_part8_eq_skeleton, k0_part9_eq_skeleton, k0_part1_eq_skeleton, k0_part2_eq_skeleton, k0_part3_eq_skeleton, k0_part4_eq_skeleton, k0_part5_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d12, %f12, -, H11⟩, ⟨%d13, %f13, -, HS0⟩, ⟨%d14, %f14, -, HS1⟩, ⟨%d15, %f15, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  sl_exec (disch := first | sl_exact hc0 | sl_exact hc1 | sl_exact hc2 | sl_exact hc3 | sl_exact hc4 | sl_exact hc5)
  sl_step
  iapply Hk
  isplitl [H0 H1 H2 H3 H4 H5 H6 H7 H8 H9 H10]
  · isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; isplitr
      · ipureintro; exact harg8.read_unread _
      iexact H7
    isplitl [H8]
    · iexists _; isplitr
      · ipureintro; exact harg9.read_unread _
      iexact H8
    isplitl [H9]
    · iexists _; isplitr
      · ipureintro; exact harg10.read_unread _
      iexact H9
    iexists _; isplitr
    · ipureintro; exact harg11.read_unread _
    iexact H10
  isplitl [H11]
  · iexists _; isplitr
    swap
    · iexact H11
    ipureintro
    refine (View.read_writes_full _ _ _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
      ld_128x2048, ld_1x128, ld_1x256, ld_32x256, ld_256x256, ld_256x64, ld_1x64, ld_512x32, ld_512x256]
    rfl
  isplitl [HS0]
  · iexists _; isplitr
    swap
    · iexact HS0
    ipureintro
    refine (View.read_writes_full _ _ _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
      ld_128x2048, ld_1x128, ld_1x256, ld_32x256, ld_256x256, ld_256x64, ld_1x64, ld_512x32, ld_512x256]
    exact (shapeCast_self _ _).trans rfl
  isplitl [HS1]
  · iexists _; isplitr
    swap
    · iexact HS1
    ipureintro
    refine (View.read_writes_full _ _ _ _ _).trans ?_
    exact shapeCast_self _ _
  iexists _; iexists _; isplitr
  swap
  · iexact HS2
  ipureintro; rfl

end Cert.KernelIdeal.Hand

end
-- ==== Proof.RunB.lean ====
/- A later step: one more block of batches is computed, the mean and its compensation take one step. -/
module

public import proofs.«01_k».proof.Proof.Stage
public import Idealize.ShloMosaic.Lib.Tactic
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- A later step: one more block of batches is computed, the mean and its compensation take one step. -/
theorem runB (c : Dev nD) (i : grid0.Coords)
    (arg1 : Memref sig .tc .vmem S128x2048 .f32) (harg1 : arg1.IsWhole)
    (arg2 : Memref sig .tc .vmem S5x128x128 .bf16) (harg2 : arg2.IsWhole)
    (arg3 : Memref sig .tc .vmem S1x128 .f32) (harg3 : arg3.IsWhole)
    (arg4 : Memref sig .tc .vmem S5x128x256 .bf16) (harg4 : arg4.IsWhole)
    (arg5 : Memref sig .tc .vmem S1x256 .f32) (harg5 : arg5.IsWhole)
    (arg6 : Memref sig .tc .vmem S32x256 .bf16) (harg6 : arg6.IsWhole)
    (arg7 : Memref sig .tc .vmem S1x256 .f32) (harg7 : arg7.IsWhole)
    (arg8 : Memref sig .tc .vmem S256x256 .bf16) (harg8 : arg8.IsWhole)
    (arg9 : Memref sig .tc .vmem S1x256 .f32) (harg9 : arg9.IsWhole)
    (arg10 : Memref sig .tc .vmem S256x64 .bf16) (harg10 : arg10.IsWhole)
    (arg11 : Memref sig .tc .vmem S1x64 .f32) (harg11 : arg11.IsWhole)
    (arg12 : Memref sig .tc .vmem S8x64 .f32) (harg12 : arg12.IsWhole)
    (arg13 : Memref sig .tc .vmem S512x32 .f32) (harg13 : arg13.IsWhole)
    (arg14 : Memref sig .tc .vmem S512x32 .f32) (harg14 : arg14.IsWhole)
    (arg15 : Memref sig .tc .vmem S512x256 .f32) (harg15 : arg15.IsWhole)
    (hc0 : cond0_0 i) (hc1 : ¬cond0_1 i) (hc2 : cond0_2 i) (hc3 : ¬cond0_3 i) (hc4 : cond0_4 i) (hc5 : ¬cond0_5 i)
    (x0 : Vec F S128x2048 .f32) (x1 : Vec F S5x128x128 .bf16) (x2 : Vec F S1x128 .f32) (x3 : Vec F S5x128x256 .bf16) (x4 : Vec F S1x256 .f32) (x5 : Vec F S32x256 .bf16) (x6 : Vec F S1x256 .f32) (x7 : Vec F S256x256 .bf16) (x8 : Vec F S1x256 .f32) (x9 : Vec F S256x64 .bf16) (x10 : Vec F S1x64 .f32) (xs0 : Vec F S512x32 .f32) (xs1 : Vec F S512x32 .f32) (E : Set ℕ) (K : PUnit → sProp 𝕄) :
    iprop(ins c arg1 arg2 arg3 arg4 arg5 arg6 arg7 arg8 arg9 arg10 arg11 x0 x1 x2 x3 x4 x5 x6 x7 x8 x9 x10 ∗ (∃ d, owns (c : Thread nD τ) arg12 fullShare d) ∗ owns (c : Thread nD τ) arg13 fullShare xs0 ∗ owns (c : Thread nD τ) arg14 fullShare xs1 ∗ (∃ d, owns (c : Thread nD τ) arg15 fullShare d)
        ∗ (iprop(ins c arg1 arg2 arg3 arg4 arg5 arg6 arg7 arg8 arg9 arg10 arg11 x0 x1 x2 x3 x4 x5 x6 x7 x8 x9 x10 ∗ owns (c : Thread nD τ) arg12 fullShare (plainBlock (feats x0 x1 x2 x3 x4) x5 x6 x7 x8 x9 x10) ∗ owns (c : Thread nD τ) arg13 fullShare (meanStep (share (feats x0 x1 x2 x3 x4)) xs0 xs1) ∗ owns (c : Thread nD τ) arg14 fullShare (compStep (share (feats x0 x1 x2 x3 x4)) xs0 xs1) ∗ (∃ d, owns (c : Thread nD τ) arg15 fullShare d)) -∗ K ⟨⟩))
      ⊢ wp frame (wpE (defs₀ (F := F)) Variants.none c none) E (cc0__mega_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__mega_body_eq_skeleton]; unfold cc0__mega_body_skel
  simp only [k0_part6_eq_skeleton, k0_part7_eq_skeleton, k0_part8_eq_skeleton, k0_part9_eq_skeleton, k0_part1_eq_skeleton, k0_part2_eq_skeleton, k0_part3_eq_skeleton, k0_part4_eq_skeleton, k0_part5_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d12, %f12, -, H11⟩, ⟨%f13, %hf13, HS0⟩, ⟨%f14, %hf14, HS1⟩, ⟨%d15, %f15, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf13; obtain rfl := harg14.eq_unread hf14
  sl_exec (disch := first | sl_exact hc0 | sl_exact hc1 | sl_exact hc2 | sl_exact hc3 | sl_exact hc4 | sl_exact hc5)
  sl_step
  iapply Hk
  isplitl [H0 H1 H2 H3 H4 H5 H6 H7 H8 H9 H10]
  · isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; isplitr
      · ipureintro; exact harg8.read_unread _
      iexact H7
    isplitl [H8]
    · iexists _; isplitr
      · ipureintro; exact harg9.read_unread _
      iexact H8
    isplitl [H9]
    · iexists _; isplitr
      · ipureintro; exact harg10.read_unread _
      iexact H9
    iexists _; isplitr
    · ipureintro; exact harg11.read_unread _
    iexact H10
  isplitl [H11]
  · iexists _; isplitr
    swap
    · iexact H11
    ipureintro
    refine (View.read_writes_full _ _ _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
      ld_128x2048, ld_1x128, ld_1x256, ld_32x256, ld_256x256, ld_256x64, ld_1x64, ld_512x32, ld_512x256]
    rfl
  isplitl [HS0]
  · iexists _; isplitr
    swap
    · iexact HS0
    ipureintro
    refine (View.read_writes_full _ _ _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
      ld_128x2048, ld_1x128, ld_1x256, ld_32x256, ld_256x256, ld_256x64, ld_1x64, ld_512x32, ld_512x256]
    exact (shapeCast_self _ _).trans rfl
  isplitl [HS1]
  · iexists _; isplitr
    swap
    · iexact HS1
    ipureintro
    refine (View.read_writes_full _ _ _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
      ld_128x2048, ld_1x128, ld_1x256, ld_32x256, ld_256x256, ld_256x64, ld_1x64, ld_512x32, ld_512x256]
    exact (shapeCast_self _ _).trans rfl
  iexists _; iexists _; isplitr
  swap
  · iexact HS2
  ipureintro; rfl

end Cert.KernelIdeal.Hand

end
-- ==== Proof.RunC.lean ====
/- The step of the first block of batches: the mean and its compensation take one step, the features are kept. -/
module

public import proofs.«01_k».proof.Proof.Stage
public import Idealize.ShloMosaic.Lib.Tactic
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The step of the first block of batches: the mean and its compensation take one step, the features are kept. -/
theorem runC (c : Dev nD) (i : grid0.Coords)
    (arg1 : Memref sig .tc .vmem S128x2048 .f32) (harg1 : arg1.IsWhole)
    (arg2 : Memref sig .tc .vmem S5x128x128 .bf16) (harg2 : arg2.IsWhole)
    (arg3 : Memref sig .tc .vmem S1x128 .f32) (harg3 : arg3.IsWhole)
    (arg4 : Memref sig .tc .vmem S5x128x256 .bf16) (harg4 : arg4.IsWhole)
    (arg5 : Memref sig .tc .vmem S1x256 .f32) (harg5 : arg5.IsWhole)
    (arg6 : Memref sig .tc .vmem S32x256 .bf16) (harg6 : arg6.IsWhole)
    (arg7 : Memref sig .tc .vmem S1x256 .f32) (harg7 : arg7.IsWhole)
    (arg8 : Memref sig .tc .vmem S256x256 .bf16) (harg8 : arg8.IsWhole)
    (arg9 : Memref sig .tc .vmem S1x256 .f32) (harg9 : arg9.IsWhole)
    (arg10 : Memref sig .tc .vmem S256x64 .bf16) (harg10 : arg10.IsWhole)
    (arg11 : Memref sig .tc .vmem S1x64 .f32) (harg11 : arg11.IsWhole)
    (arg12 : Memref sig .tc .vmem S8x64 .f32) (harg12 : arg12.IsWhole)
    (arg13 : Memref sig .tc .vmem S512x32 .f32) (harg13 : arg13.IsWhole)
    (arg14 : Memref sig .tc .vmem S512x32 .f32) (harg14 : arg14.IsWhole)
    (arg15 : Memref sig .tc .vmem S512x256 .f32) (harg15 : arg15.IsWhole)
    (hc0 : cond0_0 i) (hc1 : ¬cond0_1 i) (hc2 : cond0_2 i) (hc3 : cond0_3 i) (hc4 : ¬cond0_4 i) (hc5 : ¬cond0_5 i)
    (x0 : Vec F S128x2048 .f32) (x1 : Vec F S5x128x128 .bf16) (x2 : Vec F S1x128 .f32) (x3 : Vec F S5x128x256 .bf16) (x4 : Vec F S1x256 .f32) (x5 : Vec F S32x256 .bf16) (x6 : Vec F S1x256 .f32) (x7 : Vec F S256x256 .bf16) (x8 : Vec F S1x256 .f32) (x9 : Vec F S256x64 .bf16) (x10 : Vec F S1x64 .f32) (xs0 : Vec F S512x32 .f32) (xs1 : Vec F S512x32 .f32) (E : Set ℕ) (K : PUnit → sProp 𝕄) :
    iprop(ins c arg1 arg2 arg3 arg4 arg5 arg6 arg7 arg8 arg9 arg10 arg11 x0 x1 x2 x3 x4 x5 x6 x7 x8 x9 x10 ∗ (∃ d, owns (c : Thread nD τ) arg12 fullShare d) ∗ owns (c : Thread nD τ) arg13 fullShare xs0 ∗ owns (c : Thread nD τ) arg14 fullShare xs1 ∗ (∃ d, owns (c : Thread nD τ) arg15 fullShare d)
        ∗ (iprop(ins c arg1 arg2 arg3 arg4 arg5 arg6 arg7 arg8 arg9 arg10 arg11 x0 x1 x2 x3 x4 x5 x6 x7 x8 x9 x10 ∗ (∃ d, owns (c : Thread nD τ) arg12 fullShare d) ∗ owns (c : Thread nD τ) arg13 fullShare (meanStep (share (feats x0 x1 x2 x3 x4)) xs0 xs1) ∗ owns (c : Thread nD τ) arg14 fullShare (compStep (share (feats x0 x1 x2 x3 x4)) xs0 xs1) ∗ owns (c : Thread nD τ) arg15 fullShare (feats x0 x1 x2 x3 x4)) -∗ K ⟨⟩))
      ⊢ wp frame (wpE (defs₀ (F := F)) Variants.none c none) E (cc0__mega_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__mega_body_eq_skeleton]; unfold cc0__mega_body_skel
  simp only [k0_part6_eq_skeleton, k0_part7_eq_skeleton, k0_part8_eq_skeleton, k0_part9_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d12, %f12, -, H11⟩, ⟨%f13, %hf13, HS0⟩, ⟨%f14, %hf14, HS1⟩, ⟨%d15, %f15, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf13; obtain rfl := harg14.eq_unread hf14
  sl_exec (disch := first | sl_exact hc0 | sl_exact hc1 | sl_exact hc2 | sl_exact hc3 | sl_exact hc4 | sl_exact hc5)
  sl_step
  iapply Hk
  isplitl [H0 H1 H2 H3 H4 H5 H6 H7 H8 H9 H10]
  · isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; isplitr
      · ipureintro; exact harg8.read_unread _
      iexact H7
    isplitl [H8]
    · iexists _; isplitr
      · ipureintro; exact harg9.read_unread _
      iexact H8
    isplitl [H9]
    · iexists _; isplitr
      · ipureintro; exact harg10.read_unread _
      iexact H9
    iexists _; isplitr
    · ipureintro; exact harg11.read_unread _
    iexact H10
  isplitl [H11]
  · iexists _; iexists _; isplitr
    swap
    · iexact H11
    ipureintro; rfl
  isplitl [HS0]
  · iexists _; isplitr
    swap
    · iexact HS0
    ipureintro
    refine (View.read_writes_full _ _ _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
      ld_128x2048, ld_1x128, ld_1x256, ld_32x256, ld_256x256, ld_256x64, ld_1x64, ld_512x32, ld_512x256]
    exact (shapeCast_self _ _).trans rfl
  isplitl [HS1]
  · iexists _; isplitr
    swap
    · iexact HS1
    ipureintro
    refine (View.read_writes_full _ _ _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
      ld_128x2048, ld_1x128, ld_1x256, ld_32x256, ld_256x256, ld_256x64, ld_1x64, ld_512x32, ld_512x256]
    exact (shapeCast_self _ _).trans rfl
  iexists _; isplitr
  swap
  · iexact HS2
  ipureintro
  refine (View.read_writes_full _ _ _ _ _).trans ?_
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    ld_128x2048, ld_1x128, ld_1x256, ld_32x256, ld_256x256, ld_256x64, ld_1x64, ld_512x32, ld_512x256]
  exact (shapeCast_self _ _).trans rfl

end Cert.KernelIdeal.Hand

end
-- ==== Proof.RunD.lean ====
/- The last step: the graph is read off the mean, the first block of batches is computed from the features kept. -/
module

public import proofs.«01_k».proof.Proof.Stage
public import Idealize.ShloMosaic.Lib.Tactic
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The last step: the graph is read off the mean, the first block of batches is computed from the features kept. -/
theorem runD (c : Dev nD) (i : grid0.Coords)
    (arg1 : Memref sig .tc .vmem S128x2048 .f32) (harg1 : arg1.IsWhole)
    (arg2 : Memref sig .tc .vmem S5x128x128 .bf16) (harg2 : arg2.IsWhole)
    (arg3 : Memref sig .tc .vmem S1x128 .f32) (harg3 : arg3.IsWhole)
    (arg4 : Memref sig .tc .vmem S5x128x256 .bf16) (harg4 : arg4.IsWhole)
    (arg5 : Memref sig .tc .vmem S1x256 .f32) (harg5 : arg5.IsWhole)
    (arg6 : Memref sig .tc .vmem S32x256 .bf16) (harg6 : arg6.IsWhole)
    (arg7 : Memref sig .tc .vmem S1x256 .f32) (harg7 : arg7.IsWhole)
    (arg8 : Memref sig .tc .vmem S256x256 .bf16) (harg8 : arg8.IsWhole)
    (arg9 : Memref sig .tc .vmem S1x256 .f32) (harg9 : arg9.IsWhole)
    (arg10 : Memref sig .tc .vmem S256x64 .bf16) (harg10 : arg10.IsWhole)
    (arg11 : Memref sig .tc .vmem S1x64 .f32) (harg11 : arg11.IsWhole)
    (arg12 : Memref sig .tc .vmem S8x64 .f32) (harg12 : arg12.IsWhole)
    (arg13 : Memref sig .tc .vmem S512x32 .f32) (harg13 : arg13.IsWhole)
    (arg14 : Memref sig .tc .vmem S512x32 .f32) (harg14 : arg14.IsWhole)
    (arg15 : Memref sig .tc .vmem S512x256 .f32) (harg15 : arg15.IsWhole)
    (hc0 : ¬cond0_0 i) (hc5 : cond0_5 i)
    (x0 : Vec F S128x2048 .f32) (x1 : Vec F S5x128x128 .bf16) (x2 : Vec F S1x128 .f32) (x3 : Vec F S5x128x256 .bf16) (x4 : Vec F S1x256 .f32) (x5 : Vec F S32x256 .bf16) (x6 : Vec F S1x256 .f32) (x7 : Vec F S256x256 .bf16) (x8 : Vec F S1x256 .f32) (x9 : Vec F S256x64 .bf16) (x10 : Vec F S1x64 .f32) (xs0 : Vec F S512x32 .f32) (xs2 : Vec F S512x256 .f32) (E : Set ℕ) (K : PUnit → sProp 𝕄) :
    iprop(ins c arg1 arg2 arg3 arg4 arg5 arg6 arg7 arg8 arg9 arg10 arg11 x0 x1 x2 x3 x4 x5 x6 x7 x8 x9 x10 ∗ (∃ d, owns (c : Thread nD τ) arg12 fullShare d) ∗ owns (c : Thread nD τ) arg13 fullShare xs0 ∗ (∃ d, owns (c : Thread nD τ) arg14 fullShare d) ∗ owns (c : Thread nD τ) arg15 fullShare xs2
        ∗ (iprop(ins c arg1 arg2 arg3 arg4 arg5 arg6 arg7 arg8 arg9 arg10 arg11 x0 x1 x2 x3 x4 x5 x6 x7 x8 x9 x10 ∗ owns (c : Thread nD τ) arg12 fullShare (graphBlock xs0 xs2 x5 x6 x7 x8 x9 x10) ∗ owns (c : Thread nD τ) arg13 fullShare xs0 ∗ (∃ d, owns (c : Thread nD τ) arg14 fullShare d) ∗ owns (c : Thread nD τ) arg15 fullShare xs2) -∗ K ⟨⟩))
      ⊢ wp frame (wpE (defs₀ (F := F)) Variants.none c none) E (cc0__mega_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__mega_body_eq_skeleton]; unfold cc0__mega_body_skel
  simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d12, %f12, -, H11⟩, ⟨%f13, %hf13, HS0⟩, ⟨%d14, %f14, -, HS1⟩, ⟨%f15, %hf15, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf13; obtain rfl := harg15.eq_unread hf15
  sl_exec (disch := first | sl_exact hc0 | sl_exact hc5)
  sl_step
  iapply Hk
  isplitl [H0 H1 H2 H3 H4 H5 H6 H7 H8 H9 H10]
  · isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; isplitr
      · ipureintro; exact harg8.read_unread _
      iexact H7
    isplitl [H8]
    · iexists _; isplitr
      · ipureintro; exact harg9.read_unread _
      iexact H8
    isplitl [H9]
    · iexists _; isplitr
      · ipureintro; exact harg10.read_unread _
      iexact H9
    iexists _; isplitr
    · ipureintro; exact harg11.read_unread _
    iexact H10
  isplitl [H11]
  · iexists _; isplitr
    swap
    · iexact H11
    ipureintro
    refine (View.read_writes_full _ _ _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
      ld_128x2048, ld_1x128, ld_1x256, ld_32x256, ld_256x256, ld_256x64, ld_1x64, ld_512x32, ld_512x256]
    rfl
  isplitl [HS0]
  · iexists _; isplitr
    swap
    · iexact HS0
    ipureintro; exact harg13.read_unread _
  isplitl [HS1]
  · iexists _; iexists _; isplitr
    swap
    · iexact HS1
    ipureintro; rfl
  iexists _; isplitr
  swap
  · iexact HS2
  ipureintro; exact harg15.read_unread _

end Cert.KernelIdeal.Hand

end
-- ==== Proof.Carry.lean ====
/- The whole launch of the idealized kernel with the values it carries: the running mean and its compensation point by
   point, the features of the first block kept from one point to the next, and the block of the result each point
   leaves.  From it the run, with the result's array held to those blocks at its writing points. -/
module

public import proofs.«01_k».proof.Proof.RunA
public import proofs.«01_k».proof.Proof.RunB
public import proofs.«01_k».proof.Proof.RunC
public import proofs.«01_k».proof.Proof.RunD
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the points carry -/

/-- The features computed at point `t`. -/
def ft (c : Dev nD) (t : Fin cfg0.N) : FVec F S512x256 .f32 :=
  feats (iblk m c 0 t) (iblk m c 1 t) (iblk m c 2 t) (iblk m c 3 t) (iblk m c 4 t)

/-- The point with a given number. -/
def pt (n : ℕ) : Fin cfg0.N := ⟨n % 17, lt_of_lt_of_eq (Nat.mod_lt _ (by norm_num)) (show 17 = cfg0.N from N_0.symm)⟩

/-- A point is the point of its number. -/
theorem pt_val (t : Fin cfg0.N) : pt t.val = t :=
  Fin.ext (Nat.mod_eq_of_lt (lt_of_lt_of_eq t.isLt (show cfg0.N = 17 from N_0)))

/-- The mean and the compensation after point `n`. -/
def acc (c : Dev nD) : ℕ → FVec F S512x32 .f32 × FVec F S512x32 .f32
  | 0 => (share (ft m c (pt 0)), comp0)
  | n + 1 => (meanStep (share (ft m c (pt (n + 1)))) (acc c n).1 (acc c n).2,
      compStep (share (ft m c (pt (n + 1)))) (acc c n).1 (acc c n).2)

/-- What the scratch buffers hold before point `n`: from the second point on the mean and the compensation of the point
    before, and before the last point the features of the first block. -/
def Carried (c : Dev nD) (n : ℕ) (a b : Vec F S512x32 .f32) (d : Vec F S512x256 .f32) : Prop :=
  (1 ≤ n → n ≤ 16 → a = (acc m c (n - 1)).1 ∧ b = (acc m c (n - 1)).2) ∧ (n = 16 → d = ft m c (pt 15))

/-- What the result's block holds after point `t`: at the first fifteen points that block of batches, at the last point
    the first block of batches. -/
def OutAt (c : Dev nD) (t : Fin cfg0.N) (X : Vec F S8x64 .f32) : Prop :=
  (t.val < 15 → X = plainBlock (ft m c t) (iblk m c 5 t) (iblk m c 6 t) (iblk m c 7 t) (iblk m c 8 t) (iblk m c 9 t) (iblk m c 10 t))
    ∧ (t.val = 16 → X = graphBlock (acc m c 15).1 (ft m c (pt 15)) (iblk m c 5 t) (iblk m c 6 t) (iblk m c 7 t) (iblk m c 8 t) (iblk m c 9 t) (iblk m c 10 t))

/-- Before each point: the scratch buffers at contents of which `Carried` holds, the generator register at some state. -/
def Inv (c : Dev nD) (n : ℕ) : sProp 𝕄 :=
  iprop((∃ a b d, ⌜Carried m c n a b d⌝ ∗ owns (c : Thread nD τ) scM0_0 fullShare a
    ∗ owns (c : Thread nD τ) scM0_1 fullShare b ∗ owns (c : Thread nD τ) scM0_2 fullShare d) ∗ (∃ r, prngReg c r))

/-- The inputs' staging memrefs at point `t` at their blocks. -/
def insAt (c : Dev nD) (t : Fin cfg0.N) : sProp 𝕄 :=
  ins c (ms0_0 t) (ms0_1 t) (ms0_2 t) (ms0_3 t) (ms0_4 t) (ms0_5 t) (ms0_6 t) (ms0_7 t) (ms0_8 t) (ms0_9 t) (ms0_10 t) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-! ## One point -/

/-- The body at any point: it takes the carried contents one point on and leaves the point's block of the result. -/
theorem step (c : Dev nD) (t : Fin cfg0.N) (K : PUnit → sProp 𝕄) :
    iprop(insAt m c t ∗ (∃ d, owns (c : Thread nD τ) (ms0_11 t) fullShare d) ∗ Inv m c t.val
        ∗ (iprop(insAt m c t ∗ (∃ X, ⌜OutAt m c t X⌝ ∗ owns (c : Thread nD τ) (ms0_11 t) fullShare X)
          ∗ Inv m c (t.val + 1)) -∗ K ⟨⟩))
      ⊢ wp frame (wpE (defs₀ (F := F)) Variants.none c none) Set.univ (bodyAt0 t) K := by
  unfold Inv insAt bodyAt0
  have hN : t.val < 17 := lt_of_lt_of_eq t.isLt (show cfg0.N = 17 from N_0)
  have ept : pt t.val = t := pt_val t
  iintro ⟨HI, ⟨%d11, H11⟩, ⟨⟨%a, %b, %d, %hC, HA, HB, HD⟩, Hg⟩, Hk⟩
  obtain ⟨hab, hd⟩ := hC
  by_cases h0 : t.val < 16
  · by_cases h1 : t.val = 0
    · iapply (runA c (grid0.coords t) (ms0_0 t) (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) scM0_0 (Memref.isWhole_whole _) scM0_1 (Memref.isWhole_whole _) scM0_2 (Memref.isWhole_whole _)
        ((hcond0_0 t).mpr h0) ((hcond0_1 t).mpr (by omega)) (fun h => by have := (hcond0_2 t).mp h; omega)
        (fun h => by have := (hcond0_3 t).mp h; omega) ((hcond0_4 t).mpr (by omega)) (fun h => by have := (hcond0_5 t).mp h; omega)
        (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
      isplitl [HI]; · iexact HI
      isplitl [H11]; · iexists _; iexact H11
      isplitl [HA]; · iexists _; iexact HA
      isplitl [HB]; · iexists _; iexact HB
      isplitl [HD]; · iexists _; iexact HD
      iintro ⟨HI, H11, HA, HB, ⟨%d', HD⟩⟩
      iapply Hk
      isplitl [HI]; · iexact HI
      isplitl [H11]
      · iexists _; isplitr
        swap; · iexact H11
        ipureintro; exact ⟨fun _ => rfl, fun h => by omega⟩
      isplitr [Hg]
      · iexists _; iexists _; iexists _; isplitr
        swap
        · isplitl [HA]; · iexact HA
          isplitl [HB]; · iexact HB
          iexact HD
        ipureintro
        refine ⟨fun _ _ => ?_, fun h => by omega⟩
        have e : t.val + 1 - 1 = 0 := by omega
        rw [e]; rw [h1] at ept
        exact ⟨by show _ = share (ft m c (pt 0)); rw [ept]; rfl, rfl⟩
      iexact Hg
    · obtain ⟨rfl, rfl⟩ := hab (by omega) (by omega)
      obtain ⟨n, hn⟩ : ∃ n, t.val = n + 1 := ⟨t.val - 1, by omega⟩
      have e1 : t.val - 1 = n := by omega
      have e2 : t.val + 1 - 1 = n + 1 := by omega
      have ept' : pt (n + 1) = t := by rw [← hn]; exact ept
      by_cases h4 : t.val < 15
      · iapply (runB c (grid0.coords t) (ms0_0 t) (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) scM0_0 (Memref.isWhole_whole _) scM0_1 (Memref.isWhole_whole _) scM0_2 (Memref.isWhole_whole _)
          ((hcond0_0 t).mpr h0) (fun h => by have := (hcond0_1 t).mp h; omega) ((hcond0_2 t).mpr (by omega))
          (fun h => by have := (hcond0_3 t).mp h; omega) ((hcond0_4 t).mpr (by omega)) (fun h => by have := (hcond0_5 t).mp h; omega)
          (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ Set.univ _)
        isplitl [HI]; · iexact HI
        isplitl [H11]; · iexists _; iexact H11
        isplitl [HA]; · iexact HA
        isplitl [HB]; · iexact HB
        isplitl [HD]; · iexists _; iexact HD
        iintro ⟨HI, H11, HA, HB, ⟨%d', HD⟩⟩
        iapply Hk
        isplitl [HI]; · iexact HI
        isplitl [H11]
        · iexists _; isplitr
          swap; · iexact H11
          ipureintro; exact ⟨fun _ => rfl, fun h => by omega⟩
        isplitr [Hg]
        · iexists _; iexists _; iexists _; isplitr
          swap
          · isplitl [HA]; · iexact HA
            isplitl [HB]; · iexact HB
            iexact HD
          ipureintro
          refine ⟨fun _ _ => ?_, fun h => by omega⟩
          rw [e1, e2]; simp only [acc, ept']; exact ⟨rfl, rfl⟩
        iexact Hg
      · iapply (runC c (grid0.coords t) (ms0_0 t) (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) scM0_0 (Memref.isWhole_whole _) scM0_1 (Memref.isWhole_whole _) scM0_2 (Memref.isWhole_whole _)
          ((hcond0_0 t).mpr h0) (fun h => by have := (hcond0_1 t).mp h; omega) ((hcond0_2 t).mpr (by omega))
          ((hcond0_3 t).mpr (by omega)) (fun h => by have := (hcond0_4 t).mp h; omega) (fun h => by have := (hcond0_5 t).mp h; omega)
          (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ Set.univ _)
        isplitl [HI]; · iexact HI
        isplitl [H11]; · iexists _; iexact H11
        isplitl [HA]; · iexact HA
        isplitl [HB]; · iexact HB
        isplitl [HD]; · iexists _; iexact HD
        iintro ⟨HI, ⟨%x, H11⟩, HA, HB, HD⟩
        iapply Hk
        isplitl [HI]; · iexact HI
        isplitl [H11]
        · iexists _; isplitr
          swap; · iexact H11
          ipureintro; exact ⟨fun h => by omega, fun h => by omega⟩
        isplitr [Hg]
        · iexists _; iexists _; iexists _; isplitr
          swap
          · isplitl [HA]; · iexact HA
            isplitl [HB]; · iexact HB
            iexact HD
          ipureintro
          have e15 : t.val = 15 := by omega
          rw [e15] at ept
          refine ⟨fun _ _ => ?_, fun h => ?_⟩
          · rw [e1, e2]; simp only [acc, ept']; exact ⟨rfl, rfl⟩
          · rw [ept]; rfl
        iexact Hg
  · have e16 : t.val = 16 := by omega
    obtain ⟨rfl, rfl⟩ := hab (by omega) (by omega)
    obtain rfl := hd e16
    iapply (runD c (grid0.coords t) (ms0_0 t) (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) scM0_0 (Memref.isWhole_whole _) scM0_1 (Memref.isWhole_whole _) scM0_2 (Memref.isWhole_whole _)
      (fun h => h0 ((hcond0_0 t).mp h)) ((hcond0_5 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ Set.univ _)
    isplitl [HI]; · iexact HI
    isplitl [H11]; · iexists _; iexact H11
    isplitl [HA]; · iexact HA
    isplitl [HB]; · iexists _; iexact HB
    isplitl [HD]; · iexact HD
    iintro ⟨HI, H11, HA, ⟨%b', HB⟩, HD⟩
    iapply Hk
    isplitl [HI]; · iexact HI
    isplitl [H11]
    · iexists _; isplitr
      swap; · iexact H11
      ipureintro
      refine ⟨fun h => by omega, fun _ => ?_⟩
      rw [e16]
    isplitr [Hg]
    · iexists _; iexists _; iexists _; isplitr
      swap
      · isplitl [HA]; · iexact HA
        isplitl [HB]; · iexact HB
        iexact HD
      ipureintro
      exact ⟨fun _ h => by omega, fun h => by omega⟩
    iexact Hg

/-! ## The pipeline's proof data -/

/-- The output window: what is left in it is held to a predicate. -/
def held0 : Fin 12 → Bool := fun w => w.val == 11

/-- The predicate: the output window's block by `OutAt`. -/
def Rl (c : Dev nD) : (w : Fin cfg0.W) → Fin cfg0.N → ((cfg0.win w).block.Idx → Elt F (cfg0.win w).elt) → Prop
  | ⟨11, _⟩, t, X => OutAt m c t X
  | _, _, _ => True

/-- The proof data of the pipeline: the arrays as the region finds them, each input left at its block, the output not
    named, the invariant `Inv`, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
  Φ t := Inv m c t.val
  q _ := fullShare
  owed _ := 0

/-- The arrays of the launch are what the host code has computed. -/
theorem A_eq (c : Dev nD) (w : Fin cfg0.W) : (dats m 0 c).A w = V m c (Pipeline.arrRef spec0 w) := by
  dsimp only [dats]

/-- The signals' window keeps the block it was given. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ Y, ⌜((dats m 0 c).toRRel held0 (Rl m c)).Finds 11 t Y⌝ ∗ owns (c : Thread nD τ) (ms0_11 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ X, ⌜OutAt m c t X⌝ ∗ owns (c : Thread nD τ) (ms0_11 t) fullShare X))

/-- The body at any point, from `step`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, after0_0, after0_1, after0_2, after0_3, after0_4, after0_5, after0_6, after0_7, after0_8, after0_9, after0_10]
  rw [show (dats m 0 c).owesAt () t.succ = (dats m 0 c).owesAt () t.castSucc from rfl,
    show (dats m 0 c).Φ t.succ = Inv m c (t.val + 1) from rfl, show (dats m 0 c).Φ t.castSucc = Inv m c t.val from rfl]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y, %hY, H11⟩⟩
  iapply (step m c t _)
  isplitl [H0 H1 H2 H3 H4 H5 H6 H7 H8 H9 H10]
  · unfold insAt ins
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]; · iexists _; iexact H11
  isplitl [HI]; · iexact HI
  iintro ⟨Hin, H11, HI⟩
  isplitl [HI]; · iexact HI
  isplitl [Ho]; · iexact Ho
  unfold insAt ins
  icases Hin with ⟨H0, H1, H2, H3, H4, H5, H6, H7, H8, H9, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The body obligation with the output held to `OutAt`. -/
theorem body_obligation (c : Dev nD) :
    Pipeline.BodyObligationRel (dats (F := F) m 0 c) (defs₀ (F := F)) Variants.none () Set.univ held0 (Rl m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Inv m c 0 from rfl, PhiA0_eq]
  unfold Inv
  iintro ⟨⟨⟨%a, HA⟩, ⟨%b, HB⟩, ⟨%d, HD⟩⟩, Hg⟩
  isplitr [Hg]
  · iexists a; iexists b; iexists d; isplitr
    · ipureintro; exact ⟨fun h => by omega, fun h => by omega⟩
    isplitl [HA]; · iexact HA
    isplitl [HB]; · iexact HB
    iexact HD
  iexact Hg

/-- The invariant after the last point gives back what the launch handed over. -/
theorem hout (c : Dev nD) : (dats m 0 c).Φ (Fin.last cfg0.N) ⊢ Pipeline.ΦA spec0 c := by
  rw [show (dats m 0 c).Φ (Fin.last cfg0.N) = Inv m c (Fin.last cfg0.N).val from rfl, PhiA0_eq]
  unfold Inv
  iintro ⟨⟨%a, %b, %d, -, HA, HB, HD⟩, Hg⟩
  isplitr [Hg]
  · isplitl [HA]; · iexists _; iexact HA
    isplitl [HB]; · iexists _; iexact HB
    iexists _; iexact HD
  iexact Hg

/-! ## The run and the frame -/

set_option backward.isDefEq.respectTransparency.types false in
/-- The launch: every execution terminates, the arrays end as the relational data say, every counter at zero. -/
theorem run_main_quiescent : θ_run defs (onTc (τ := τ) (main (F := F))) (s₀ m ρ) (fun r =>
    (Pipeline.RDat.FramePost (cfgs 0) (fun c => (dats m 0 c).toRRel held0 (Rl m c)) (V m)) r ∧ r.2.sem = fun _ => 0) :=
  Pipeline.RDat.θ_run_frame_track (Q' := _) cfgs (0 : Fin 1) launch0 defs₀ Variants.none
    (fun c => (dats m 0 c).toRRel held0 (Rl m c)) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ)
    (Pipeline.RDat.FramePost (cfgs 0) (fun c => (dats m 0 c).toRRel held0 (Rl m c)) (V m)) :=
  (θ_run defs _ _).mono (fun _ h => h.1) (run_main_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_ofR m ρ (fun c => (dats m 0 c).toRRel held0 (Rl m c)) (A_eq m) (run_main m ρ))
    ((θ_run defs _ _).mono (fun _ h => h.2) (run_main_quiescent m ρ))

end Cert.KernelIdeal.Hand

end
-- ==== Proof.Frames.lean ====
/- What holds of the three programs on every argument: each runs to its end, leaves its arguments and every counter as
   they were, and the idealized kernel's named constants stand for the kernel's words. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Carry
public import Idealize.ShloMosaic.Lib.Quiescent
import all proofs.«01_k».proof.Kernel
import all proofs.«01_k».proof.KernelIdeal

@[expose] public section

set_option maxRecDepth 1000000

noncomputable section

namespace Cert.Proof

open Idealize.ShloMosaic Idealize.SL.Sem

/-! ## The kernel as the idealized program read at words

The idealized program differs from the kernel in its named constants alone, so with each name read as its word the two
are one program and the idealized program's frame, proved at any float values, is the kernel's. -/

/-- Each named constant read as the word it stands for. -/
local instance wordNamed : Named Bits where
  named _ _ {φ} bits := Scalar.ofBits φ bits

local instance : Cert.Kernel.Facts := Cert.Kernel.Gen.facts
local instance : Cert.KernelIdeal.Facts := Cert.KernelIdeal.Gen.facts

set_option maxHeartbeats 4000000 in
/-- The two programs' bodies are one. -/
theorem body_same : (Cert.Kernel.cc0__mega_body (F := Bits)) = Cert.KernelIdeal.cc0__mega_body (F := Bits) := rfl

set_option maxHeartbeats 4000000 in
/-- So are their kernels' tables. -/
theorem defs₀_same : (Cert.Kernel.defs₀ (F := Bits)) = Cert.KernelIdeal.defs₀ (F := Bits) := by
  unfold Cert.Kernel.defs₀ Cert.KernelIdeal.defs₀
  refine congrArg Defs.onTc ?_
  funext l x
  match l, x with
  | 0, (t, s) => rfl
  | ⟨_ + 1, h⟩, _ => exact absurd h (Nat.not_lt.2 (Nat.le_add_left _ _))

set_option maxHeartbeats 4000000 in
/-- So are the tables with the pipeline's regions. -/
theorem defs_same : (Cert.Kernel.defs (F := Bits)) = Cert.KernelIdeal.defs (F := Bits) :=
  congrArg (Pipeline.defs Cert.KernelIdeal.pcfgs) defs₀_same

set_option maxHeartbeats 4000000 in
/-- So are their main programs. -/
theorem main_same : (Cert.Kernel.main (F := Bits)) = Cert.KernelIdeal.main (F := Bits) := rfl

set_option maxHeartbeats 4000000 in
/-- The kernel runs, keeps its arguments and leaves the counters at zero. -/
theorem kernel_frame : Cert.quiescent_Kernel (hKernel := Cert.Kernel.Gen.facts) := by
  intro m g _
  rw [defs_same, main_same]
  exact Cert.KernelIdeal.Hand.frame (F := Bits) m g

/-- The idealized kernel runs, keeps its arguments and leaves the counters at zero. -/
theorem ideal_frame : Cert.quiescent_KernelIdeal (hKernelIdeal := Cert.KernelIdeal.Gen.facts) :=
  fun m g _ => Cert.KernelIdeal.Hand.frame m g

/-- The reference runs and keeps its arguments; it has no counter. -/
theorem reference_frame : Cert.quiescent_ReferenceIdeal (hReferenceIdeal := Cert.ReferenceIdeal.Gen.facts) :=
  fun m g _ => (θ_run _ _ _).mono (fun r h => ⟨fun c => (h c).2, sem_eq_zero_of_no_sems rfl r.2⟩)
    (Cert.ReferenceIdeal.Value.run m g)

/-- Each named constant of the idealized kernel stands for the word the kernel holds. -/
theorem named : Cert.preserves_Kernel_KernelIdeal :=
  ⟨IdealRules.named_const.statement Cert.KernelIdeal.κ "taken" .f32 0x7F61B1E6#32 ⊤ rfl,
    IdealRules.named_const.statement Cert.KernelIdeal.κ "third" .f32 0x3EAAAAAB#32 ((1 / 3 : ℝ) : EReal) rfl⟩

end Cert.Proof

end
-- ==== Proof.Spec.lean ====
/- What the network computes, in plain mathematics over the extended reals: two layers of convolution with pooling, the
   mean of the features over the batches, the eight nearest nodes of every node, two layers of graph convolution, the
   mean over the nodes and a linear map. -/
module

public import Idealize.ShloMosaic.PureOps.Ideal.Laws

@[expose] public section

noncomputable section

namespace Cert.Spec

/-- The eleven arguments, read at their coordinates. -/
structure Args where
  /-- the signals: batch, channel, time -/
  x : Fin 128 → Fin 16 → Fin 2048 → EReal
  /-- the first convolution's weights: output channel, input channel, tap -/
  k1 : Fin 16 → Fin 16 → Fin 5 → EReal
  /-- the first convolution's bias -/
  c1 : Fin 16 → EReal
  /-- the second convolution's weights -/
  k2 : Fin 32 → Fin 16 → Fin 5 → EReal
  /-- the second convolution's bias -/
  c2 : Fin 32 → EReal
  /-- the first graph layer's matrix -/
  W1 : Fin 32 → Fin 256 → EReal
  /-- the first graph layer's bias -/
  b1 : Fin 256 → EReal
  /-- the second graph layer's matrix -/
  W2 : Fin 256 → Fin 256 → EReal
  /-- the second graph layer's bias -/
  b2 : Fin 256 → EReal
  /-- the last matrix -/
  fw : Fin 256 → Fin 64 → EReal
  /-- the last bias -/
  fb : Fin 64 → EReal

/-! ## Convolution -/

/-- A signal of 2048 times as a sequence, zero from there on. -/
def sig (f : Fin 2048 → EReal) (n : ℕ) : EReal := if h : n < 2048 then f ⟨n, h⟩ else 0

/-- A sequence with two zeros put in front. -/
def padded (f : ℕ → EReal) (n : ℕ) : EReal := if 2 ≤ n then f (n - 2) else 0

/-- A convolution of five taps over sixteen channels, at time `n`. -/
def convAt (f : Fin 16 → ℕ → EReal) (w : Fin 16 → Fin 5 → EReal) (n : ℕ) : EReal :=
  ∑ k : Fin 5, ∑ i : Fin 16, padded (f i) (n + k.val) * w i k

/-- Neighbouring times pooled by their maximum, with a bias, cut at zero; zero from time `T` on. -/
def pool (c : ℕ → EReal) (b : EReal) (T s : ℕ) : EReal :=
  if s < T then max (max (c (2 * s)) (c (2 * s + 1)) + b) 0 else 0

/-- The first layer: batch `b`, channel `o`, time `s`. -/
def lay1 (A : Args) (b : Fin 128) (o : Fin 16) (s : ℕ) : EReal :=
  pool (convAt (fun i => sig (A.x b i)) (A.k1 o)) (A.c1 o) 1024 s

/-- The second layer. -/
def lay2 (A : Args) (b : Fin 128) (o : Fin 32) (s : ℕ) : EReal :=
  pool (convAt (lay1 A b) (A.k2 o)) (A.c2 o) 512 s

/-- The features of node `n` of batch `b`. -/
def feat (A : Args) (b : Fin 128) (n : Fin 512) (c : Fin 32) : EReal := lay2 A b c n.val

/-! ## The graph -/

/-- The mean of the features over the batches. -/
def mean (A : Args) (n : Fin 512) (c : Fin 32) : EReal :=
  (∑ b : Fin 128, feat A b n c) * ((1 / 128 : ℝ) : EReal)

/-- The squared distance of two nodes, a large number added on the diagonal. -/
def dist (m : Fin 512 → Fin 32 → EReal) (r s : Fin 512) : EReal :=
  ((∑ k : Fin 32, m r k * m r k) + (∑ k : Fin 32, m s k * m s k)
    - ((2 : ℝ) : EReal) * ∑ k : Fin 32, m r k * m s k) + (if r = s then ((1000000000 : ℝ) : EReal) else 0)

open Classical in
/-- The places where a row is least. -/
def lowest (d : Fin 512 → EReal) : Finset (Fin 512) := Finset.univ.filter fun s => ∀ s', d s ≤ d s'

/-- What it is to be a place where a row is least. -/
theorem mem_lowest (d : Fin 512 → EReal) (s : Fin 512) : s ∈ lowest d ↔ ∀ s', d s ≤ d s' := by
  simp [lowest]

/-- A row is least somewhere. -/
theorem lowest_nonempty (d : Fin 512 → EReal) : (lowest d).Nonempty := by
  obtain ⟨s, -, hs⟩ := Finset.exists_min_image Finset.univ d ⟨0, Finset.mem_univ _⟩
  exact ⟨s, (mem_lowest d s).2 fun s' => hs s' (Finset.mem_univ _)⟩

/-- The first place where a row is least. -/
def least (d : Fin 512 → EReal) : Fin 512 := (lowest d).min' (lowest_nonempty d)

/-- The first least place is a place where the row is least. -/
theorem least_le (d : Fin 512 → EReal) (s : Fin 512) : d (least d) ≤ d s :=
  (mem_lowest d _).1 (Finset.min'_mem _ _) s

/-- No place before the first least place is least. -/
theorem least_first (d : Fin 512 → EReal) (s : Fin 512) (h : ∀ s', d s ≤ d s') : least d ≤ s :=
  Finset.min'_le _ _ ((mem_lowest d s).2 h)

/-- A row with its first least entry taken out. -/
def strike (d : Fin 512 → EReal) : Fin 512 → EReal := fun s => if s = least d then ⊤ else d s

/-- The `j`-th nearest node. -/
def nbr (d : Fin 512 → EReal) (j : ℕ) : Fin 512 := least (strike^[j] d)

/-- The weight of an edge: a third times a third. -/
def ninth : EReal := ((1 / 3 : ℝ) : EReal) * ((1 / 3 : ℝ) : EReal)

/-- Nodes of the batch of the graph mixed: the eight nearest nodes and the node itself. -/
def mixed (d : Fin 512 → Fin 512 → EReal) (z : Fin 512 → Fin 256 → EReal) (r : Fin 512) (o : Fin 256) : EReal :=
  (∑ j : Fin 8, ninth * z (nbr (d r) j.val) o) + ninth * z r o

/-- One layer's mixing: only the first batch lies in the graph. -/
def spread (A : Args) (b : Fin 128) (z : Fin 512 → Fin 256 → EReal) : Fin 512 → Fin 256 → EReal :=
  if b = 0 then mixed (dist (mean A)) z else z

/-! ## The layers after the graph -/

/-- The first graph layer's product. -/
def xw1 (A : Args) (b : Fin 128) (n : Fin 512) (o : Fin 256) : EReal := ∑ c : Fin 32, feat A b n c * A.W1 c o

/-- The first graph layer. -/
def hid1 (A : Args) (b : Fin 128) (n : Fin 512) (o : Fin 256) : EReal := max (spread A b (xw1 A b) n o + A.b1 o) 0

/-- The second graph layer's product. -/
def xw2 (A : Args) (b : Fin 128) (n : Fin 512) (o : Fin 256) : EReal := ∑ c : Fin 256, hid1 A b n c * A.W2 c o

/-- The second graph layer. -/
def hid2 (A : Args) (b : Fin 128) (n : Fin 512) (o : Fin 256) : EReal := max (spread A b (xw2 A b) n o + A.b2 o) 0

/-- The mean over the nodes. -/
def pooled (A : Args) (b : Fin 128) (o : Fin 256) : EReal := (∑ n : Fin 512, hid2 A b n o) * ((1 / 512 : ℝ) : EReal)

/-- The result: batch `b`, output `o`. -/
def out (A : Args) (b : Fin 128) (o : Fin 64) : EReal := (∑ k : Fin 256, pooled A b k * A.fw k o) + A.fb o

end Cert.Spec

end
-- ==== Proof.KConv.lean ====
/- The node features a block of eight batches gives, read at an index: the two convolutions with their pooling. -/
module

public import proofs.«01_k».proof.Proof.Stage
public import proofs.«01_k».proof.Proof.Spec
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- Column `16 b + i` of a block of 128 columns. -/
def col16 (b : Fin 8) (i : Fin 16) : Fin 128 := ⟨16 * b.val + i.val, by omega⟩

/-- Column `32 b + o` of a block of 256 columns. -/
def col32 (b : Fin 8) (o : Fin 32) : Fin 256 := ⟨32 * b.val + o.val, by omega⟩

/-- A sum over the 128 columns is a sum over eight batches of sums over sixteen channels. -/
theorem sum_col16 (f : Fin 128 → EReal) : ∑ k, f k = ∑ b : Fin 8, ∑ i : Fin 16, f (col16 b i) := by
  rw [← Fintype.sum_prod_type', ← Equiv.sum_comp (finProdFinEquiv (m := 8) (n := 16))]
  refine Finset.sum_congr rfl fun p _ => congrArg f (Fin.ext ?_)
  simp [finProdFinEquiv, col16]; omega

/-- A block of rows whose entry at row `q`, batch `b`, channel `i` is `g b i q`. -/
def Holds (a : FVec Ideal S512x128 .bf16) (g : Fin 8 → Fin 16 → ℕ → EReal) : Prop :=
  ∀ (q : Fin 512) (b : Fin 8) (i : Fin 16), a (ix2 q (col16 b i)) = g b i q.val

/-- The first layer's product at an index. -/
theorem dot1_at (a : FVec Ideal S512x128 .bf16) (w : FVec Ideal S128x128 .bf16) (q : Fin 512) (c : Fin 128) :
    dot1 a w (ix2 q c) = ∑ k : Fin 128, a (ix2 q k) * w (ix2 k c) := by
  pointwise [dot1]

/-- The second layer's product at an index. -/
theorem dot2_at (a : FVec Ideal S512x128 .bf16) (w : FVec Ideal S128x256 .bf16) (q : Fin 512) (c : Fin 256) :
    dot2 a w (ix2 q c) = ∑ k : Fin 128, a (ix2 q k) * w (ix2 k c) := by
  pointwise [dot2]

/-- A sum of products against a column of the unit matrix is one term. -/
theorem sum_unit (f : Fin 128 → EReal) (c : Fin 128) :
    ∑ k : Fin 128, f k * FloatOps.sitofp (F := Ideal) FTy.f32
      (BitVec.setWidth 32 (IntOp.cmpi CmpIPredicate.eq (BitVec.ofNat 32 k.val) (BitVec.ofNat 32 c.val))) = f c := by
  have h : ∀ k : Fin 128, FloatOps.sitofp (F := Ideal) FTy.f32
      (BitVec.setWidth 32 (IntOp.cmpi CmpIPredicate.eq (BitVec.ofNat 32 k.val) (BitVec.ofNat 32 c.val)))
      = if k = c then (1 : EReal) else 0 := by
    intro k
    have e : (BitVec.ofNat 32 k.val = BitVec.ofNat 32 c.val) ↔ k = c := by
      refine ⟨fun h => Fin.ext ?_, fun h => by rw [h]⟩
      have := congrArg BitVec.toNat h
      simp only [BitVec.toNat_ofNat] at this
      omega
    by_cases hk : k = c
    · subst hk
      rw [if_pos rfl, IntOp.cmpi, beq_self_eq_true]
      show (((((BitVec.ofBool true).setWidth 32).toInt : ℝ)) : EReal) = 1
      rw [show ((BitVec.ofBool true).setWidth 32).toInt = 1 from by decide]; simp
    · have hk' : ¬ (BitVec.ofNat 32 k.val = BitVec.ofNat 32 c.val) := fun h => hk (e.1 h)
      rw [if_neg hk, IntOp.cmpi, beq_eq_false_iff_ne.2 hk']
      show (((((BitVec.ofBool false).setWidth 32).toInt : ℝ)) : EReal) = 0
      rw [show ((BitVec.ofBool false).setWidth 32).toInt = 0 from by decide]; simp
  simp only [h, mul_ite, mul_one, mul_zero, Finset.sum_ite_eq', Finset.mem_univ, if_true]

/-- The transposed block at an index. -/
theorem pay20_at (x : Vec Ideal S128x2048 .f32) (q : Fin 512) (o : Fin 4) (c : Fin 128) :
    k0_pay20 x (ix3 q o c) = x (ix2 c ⟨4 * q.val + o.val, by omega⟩) := by
  pointwise [k0_pay20]
  refine (sum_unit (fun k => x (ix2 k ⟨q.val * 4 + o.val, by omega⟩)) c).trans ?_
  exact congrArg x (congrArg (ix2 c) (Fin.ext (by show q.val * 4 + o.val = 4 * q.val + o.val; omega)))

/-- The rows moved one later, at an index. -/
theorem up_at (a : FVec Ideal S512x128 .bf16) (q : Fin 512) (c : Fin 128) :
    up a (ix2 q c) = if h : q.val < 1 then 0 else a (ix2 ⟨q.val - 1, by omega⟩ c) := by
  pointwise [up]

/-- The rows moved one earlier, at an index. -/
theorem dn_at (a : FVec Ideal S512x128 .bf16) (q : Fin 512) (c : Fin 128) :
    dn a (ix2 q c) = if h : q.val < 511 then a (ix2 ⟨q.val + 1, by omega⟩ c) else 0 := by
  pointwise [dn]
  split
  · exact congrArg a (congrArg (fun t => ix2 t c) (Fin.ext (by show 1 + q.val = q.val + 1; omega)))
  · rfl

/-- Rows at times `m q + (m + r)` moved one later are at times `m q + r`. -/
theorem up_holds {a : FVec Ideal S512x128 .bf16} {f : Fin 8 → Fin 16 → ℕ → EReal} {m r : ℕ} (hr : r < 2)
    (h : Holds a fun b i q => Spec.padded (f b i) (m * q + (m + r))) :
    Holds (up a) fun b i q => Spec.padded (f b i) (m * q + r) := by
  intro q b i
  rw [up_at]
  by_cases hq : q.val < 1
  · have h0 : q.val = 0 := by omega
    rw [dif_pos hq]
    show (0 : EReal) = Spec.padded (f b i) (m * q.val + r)
    rw [h0, Spec.padded, if_neg (by omega)]
  · rw [dif_neg hq, h]
    have e : m * (q.val - 1) + (m + r) = m * q.val + r := by
      obtain ⟨n, hn⟩ : ∃ n, q.val = n + 1 := ⟨q.val - 1, by omega⟩
      rw [hn, Nat.add_sub_cancel, Nat.mul_succ]; omega
    show Spec.padded (f b i) (m * (q.val - 1) + (m + r)) = _
    rw [e]

/-- Rows at times `m q + r` moved one earlier are at times `m q + (m + r)`, the sequence being zero past the rows. -/
theorem dn_holds {a : FVec Ideal S512x128 .bf16} {f : Fin 8 → Fin 16 → ℕ → EReal} {m r T : ℕ}
    (hf : ∀ b i n, T ≤ n → f b i n = 0) (hT : T + 2 ≤ m * 511 + (m + r))
    (h : Holds a fun b i q => Spec.padded (f b i) (m * q + r)) :
    Holds (dn a) fun b i q => Spec.padded (f b i) (m * q + (m + r)) := by
  intro q b i
  rw [dn_at]
  by_cases hq : q.val < 511
  · rw [dif_pos hq, h]
    show Spec.padded (f b i) (m * (q.val + 1) + r) = _
    congr 1; rw [Nat.mul_succ]; omega
  · have h0 : q.val = 511 := by omega
    rw [dif_neg hq, h0]
    show (0 : EReal) = Spec.padded (f b i) (m * 511 + (m + r))
    rw [Spec.padded, if_pos (by omega), hf b i _ (by omega)]

/-- Rows of a phase read a signal. -/
theorem phase_holds {x : Vec Ideal S128x2048 .f32} {X : Fin 8 → Fin 16 → Fin 2048 → EReal}
    (hx : ∀ b i n, x (ix2 (col16 b i) n) = X b i n) (o : Fin 4) {a : FVec Ideal S512x128 .bf16}
    (ha : ∀ q c, a (ix2 q c) = k0_pay20 x (ix3 q o c)) {r : ℕ} (hr : r = o.val + 2) :
    Holds a fun b i q => Spec.padded (Spec.sig (X b i)) (4 * q + r) := by
  intro q b i
  show _ = Spec.padded (Spec.sig (X b i)) (4 * q.val + r)
  rw [ha, pay20_at, hx, Spec.padded, if_pos (by omega), Spec.sig, dif_pos (by omega)]
  exact congrArg (X b i) (Fin.ext (by show 4 * q.val + o.val = 4 * q.val + r - 2; omega))

/-! ## Products against block-diagonal weights -/

/-- One product of the first layer against a tap: the channels of the column's own batch. -/
theorem dot1_holds {a : FVec Ideal S512x128 .bf16} {g : Fin 8 → Fin 16 → ℕ → EReal} (ha : Holds a g)
    {w : FVec Ideal S128x128 .bf16} {v : Fin 16 → Fin 16 → EReal}
    (hw : ∀ b i b' o, w (ix2 (col16 b i) (col16 b' o)) = if b = b' then v o i else 0) (q : Fin 512) (b : Fin 8)
    (o : Fin 16) : dot1 a w (ix2 q (col16 b o)) = ∑ i : Fin 16, g b i q.val * v o i := by
  rw [dot1_at, sum_col16]
  simp only [hw, ha q, mul_ite, mul_zero]
  rw [Finset.sum_eq_single b (fun b' _ hb => by simp [hb]) (fun h => absurd (Finset.mem_univ _) h)]
  simp

/-- One product of the second layer against a tap. -/
theorem dot2_holds {a : FVec Ideal S512x128 .bf16} {g : Fin 8 → Fin 16 → ℕ → EReal} (ha : Holds a g)
    {w : FVec Ideal S128x256 .bf16} {v : Fin 32 → Fin 16 → EReal}
    (hw : ∀ b i b' o, w (ix2 (col16 b i) (col32 b' o)) = if b = b' then v o i else 0) (q : Fin 512) (b : Fin 8)
    (o : Fin 32) : dot2 a w (ix2 q (col32 b o)) = ∑ i : Fin 16, g b i q.val * v o i := by
  rw [dot2_at, sum_col16]
  simp only [hw, ha q, mul_ite, mul_zero]
  rw [Finset.sum_eq_single b (fun b' _ hb => by simp [hb]) (fun h => absurd (Finset.mem_univ _) h)]
  simp

/-- Block-diagonal weights of the first layer. -/
def Diag1 (w : Vec Ideal S5x128x128 .bf16) (v : Fin 16 → Fin 16 → Fin 5 → EReal) : Prop :=
  ∀ k b i b' o, w (ix3 k (col16 b i) (col16 b' o)) = if b = b' then v o i k else 0

/-- Block-diagonal weights of the second layer. -/
def Diag2 (w : Vec Ideal S5x128x256 .bf16) (v : Fin 32 → Fin 16 → Fin 5 → EReal) : Prop :=
  ∀ k b i b' o, w (ix3 k (col16 b i) (col32 b' o)) = if b = b' then v o i k else 0

/-- A convolution written tap by tap. -/
theorem convAt_taps (f : Fin 16 → ℕ → EReal) (w : Fin 16 → Fin 5 → EReal) (n : ℕ) :
    Spec.convAt f w n = (∑ i, Spec.padded (f i) n * w i 0) + (∑ i, Spec.padded (f i) (n + 1) * w i 1)
      + (∑ i, Spec.padded (f i) (n + 2) * w i 2) + (∑ i, Spec.padded (f i) (n + 3) * w i 3)
      + ∑ i, Spec.padded (f i) (n + 4) * w i 4 := by
  rw [Spec.convAt, Fin.sum_univ_five]
  rfl

variable {f : Fin 8 → Fin 16 → ℕ → EReal} {t : ℕ → ℕ}

/-- Five blocks at five successive times, convolved in the first layer. -/
theorem conv1_holds {a0 a1 a2 a3 a4 : FVec Ideal S512x128 .bf16} {w : Vec Ideal S5x128x128 .bf16}
    {v : Fin 16 → Fin 16 → Fin 5 → EReal} (hw : Diag1 w v)
    (h0 : Holds a0 fun b i q => Spec.padded (f b i) (t q)) (h1 : Holds a1 fun b i q => Spec.padded (f b i) (t q + 1))
    (h2 : Holds a2 fun b i q => Spec.padded (f b i) (t q + 2)) (h3 : Holds a3 fun b i q => Spec.padded (f b i) (t q + 3))
    (h4 : Holds a4 fun b i q => Spec.padded (f b i) (t q + 4)) (q : Fin 512) (b : Fin 8) (o : Fin 16) :
    conv1 a0 a1 a2 a3 a4 w (ix2 q (col16 b o)) = Spec.convAt (f b) (v o) (t q.val) := by
  rw [convAt_taps]
  pointwise [conv1]
  rw [dot1_holds h0 (v := fun o i => v o i 0) (fun b i b' o => by pointwise [tap1]; exact hw 0 b i b' o),
    dot1_holds h1 (v := fun o i => v o i 1) (fun b i b' o => by pointwise [tap1]; exact hw 1 b i b' o),
    dot1_holds h2 (v := fun o i => v o i 2) (fun b i b' o => by pointwise [tap1]; exact hw 2 b i b' o),
    dot1_holds h3 (v := fun o i => v o i 3) (fun b i b' o => by pointwise [tap1]; exact hw 3 b i b' o),
    dot1_holds h4 (v := fun o i => v o i 4) (fun b i b' o => by pointwise [tap1]; exact hw 4 b i b' o)]

/-- Five blocks at five successive times, convolved in the second layer. -/
theorem conv2_holds {a0 a1 a2 a3 a4 : FVec Ideal S512x128 .bf16} {w : Vec Ideal S5x128x256 .bf16}
    {v : Fin 32 → Fin 16 → Fin 5 → EReal} (hw : Diag2 w v)
    (h0 : Holds a0 fun b i q => Spec.padded (f b i) (t q)) (h1 : Holds a1 fun b i q => Spec.padded (f b i) (t q + 1))
    (h2 : Holds a2 fun b i q => Spec.padded (f b i) (t q + 2)) (h3 : Holds a3 fun b i q => Spec.padded (f b i) (t q + 3))
    (h4 : Holds a4 fun b i q => Spec.padded (f b i) (t q + 4)) (q : Fin 512) (b : Fin 8) (o : Fin 32) :
    conv2 a0 a1 a2 a3 a4 w (ix2 q (col32 b o)) = Spec.convAt (f b) (v o) (t q.val) := by
  rw [convAt_taps]
  pointwise [conv2]
  rw [dot2_holds h0 (v := fun o i => v o i 0) (fun b i b' o => by pointwise [tap2]; exact hw 0 b i b' o),
    dot2_holds h1 (v := fun o i => v o i 1) (fun b i b' o => by pointwise [tap2]; exact hw 1 b i b' o),
    dot2_holds h2 (v := fun o i => v o i 2) (fun b i b' o => by pointwise [tap2]; exact hw 2 b i b' o),
    dot2_holds h3 (v := fun o i => v o i 3) (fun b i b' o => by pointwise [tap2]; exact hw 3 b i b' o),
    dot2_holds h4 (v := fun o i => v o i 4) (fun b i b' o => by pointwise [tap2]; exact hw 4 b i b' o)]

/-- Two phases pooled. -/
theorem pool1_at (c d : FVec Ideal S512x128 .f32) (b : Vec Ideal S1x128 .f32) (q : Fin 512) (k : Fin 128) :
    pool1 c d b (ix2 q k) = max (max (c (ix2 q k)) (d (ix2 q k)) + b (ix2 0 k)) 0 := by
  pointwise [pool1]

section
variable {x : Vec Ideal S128x2048 .f32} {X : Fin 8 → Fin 16 → Fin 2048 → EReal} {w1 : Vec Ideal S5x128x128 .bf16}
  {v1 : Fin 16 → Fin 16 → Fin 5 → EReal} {b1 : Vec Ideal S1x128 .f32} {u1 : Fin 16 → EReal}
  (hx : ∀ b i n, x (ix2 (col16 b i) n) = X b i n) (hw1 : Diag1 w1 v1) (hb1 : ∀ b o, b1 (ix2 0 (col16 b o)) = u1 o)

/-- The pooled first layer of a block. -/
def L1 (X : Fin 8 → Fin 16 → Fin 2048 → EReal) (v1 : Fin 16 → Fin 16 → Fin 5 → EReal) (u1 : Fin 16 → EReal)
    (b : Fin 8) (o : Fin 16) : ℕ → EReal :=
  Spec.pool (Spec.convAt (fun i => Spec.sig (X b i)) (v1 o)) (u1 o) 1024

/-- The signals are zero from their end on. -/
theorem sig_zero (b : Fin 8) (i : Fin 16) (n : ℕ) (h : 2048 ≤ n) : Spec.sig (X b i) n = 0 := by
  rw [Spec.sig, dif_neg (by omega)]

/-- The first layer is zero from its end on. -/
theorem L1_zero (b : Fin 8) (o : Fin 16) (n : ℕ) (h : 1024 ≤ n) : L1 X v1 u1 b o n = 0 := by
  rw [L1, Spec.pool, if_neg (by omega)]

include hx in
/-- The eight blocks at the times `4 q`, …, `4 q + 7` after the two zeros in front. -/
theorem ph_holds :
    Holds (up (ph2 x)) (fun b i q => Spec.padded (Spec.sig (X b i)) (4 * q + 0))
    ∧ Holds (up (ph3 x)) (fun b i q => Spec.padded (Spec.sig (X b i)) (4 * q + 1))
    ∧ Holds (ph0 x) (fun b i q => Spec.padded (Spec.sig (X b i)) (4 * q + 2))
    ∧ Holds (ph1 x) (fun b i q => Spec.padded (Spec.sig (X b i)) (4 * q + 3))
    ∧ Holds (ph2 x) (fun b i q => Spec.padded (Spec.sig (X b i)) (4 * q + 4))
    ∧ Holds (ph3 x) (fun b i q => Spec.padded (Spec.sig (X b i)) (4 * q + 5))
    ∧ Holds (dn (ph0 x)) (fun b i q => Spec.padded (Spec.sig (X b i)) (4 * q + 6))
    ∧ Holds (dn (ph1 x)) (fun b i q => Spec.padded (Spec.sig (X b i)) (4 * q + 7)) := by
  have p0 := phase_holds hx 0 (a := ph0 x) (fun q c => by pointwise [ph0, phase]) (r := 2) rfl
  have p1 := phase_holds hx 1 (a := ph1 x) (fun q c => by pointwise [ph1, phase]) (r := 3) rfl
  have p2 := phase_holds hx 2 (a := ph2 x) (fun q c => by pointwise [ph2, phase]) (r := 4) rfl
  have p3 := phase_holds hx 3 (a := ph3 x) (fun q c => by pointwise [ph3, phase]) (r := 5) rfl
  exact ⟨up_holds (m := 4) (r := 0) (by omega) p2, up_holds (m := 4) (r := 1) (by omega) p3, p0, p1, p2, p3,
    dn_holds (T := 2048) (m := 4) (r := 2) sig_zero (by omega) p0,
    dn_holds (T := 2048) (m := 4) (r := 3) sig_zero (by omega) p1⟩

include hx hw1 hb1 in
/-- The first layer at the even and at the odd times. -/
theorem first_holds :
    Holds (hEven x w1 b1) (fun b o q => Spec.padded (L1 X v1 u1 b o) (2 * q + 2))
    ∧ Holds (hOdd x w1 b1) (fun b o q => Spec.padded (L1 X v1 u1 b o) (2 * q + 3)) := by
  obtain ⟨p0, p1, p2, p3, p4, p5, p6, p7⟩ := ph_holds hx
  constructor <;> intro q b o
  · rw [hEven, pool1_at, hb1, conv1_holds (t := fun q => 4 * q + 0) hw1 p0 p1 p2 p3 p4,
      conv1_holds (t := fun q => 4 * q + 1) hw1 p1 p2 p3 p4 p5]
    show _ = Spec.padded (L1 X v1 u1 b o) (2 * q.val + 2)
    rw [Spec.padded, if_pos (by omega), L1, Spec.pool, if_pos (by omega)]
    congr 4 <;> omega
  · rw [hOdd, pool1_at, hb1, conv1_holds (t := fun q => 4 * q + 2) hw1 p2 p3 p4 p5 p6,
      conv1_holds (t := fun q => 4 * q + 3) hw1 p3 p4 p5 p6 p7]
    show _ = Spec.padded (L1 X v1 u1 b o) (2 * q.val + 3)
    rw [Spec.padded, if_pos (by omega), L1, Spec.pool, if_pos (by omega)]
    congr 4 <;> omega

variable {w2 : Vec Ideal S5x128x256 .bf16} {v2 : Fin 32 → Fin 16 → Fin 5 → EReal} {b2 : Vec Ideal S1x256 .f32}
  {u2 : Fin 32 → EReal} (hw2 : Diag2 w2 v2) (hb2 : ∀ b o, b2 (ix2 0 (col32 b o)) = u2 o)

/-- The second layer's pooling at an index. -/
theorem second_at (e o : FVec Ideal S512x128 .bf16) (w : Vec Ideal S5x128x256 .bf16) (b : Vec Ideal S1x256 .f32)
    (q : Fin 512) (k : Fin 256) : second e o w b (ix2 q k)
      = max (max (conv2 (up e) (up o) e o (dn e) w (ix2 q k)) (conv2 (up o) e o (dn e) (dn o) w (ix2 q k)) + b (ix2 0 k)) 0 := by
  pointwise [second]

include hx hw1 hb1 hw2 hb2 in
/-- The features of a block of eight batches. -/
theorem feats_at (q : Fin 512) (b : Fin 8) (o : Fin 32) :
    feats x w1 b1 w2 b2 (ix2 q (col32 b o))
      = Spec.pool (Spec.convAt (L1 X v1 u1 b) (v2 o)) (u2 o) 512 q.val := by
  obtain ⟨he, ho⟩ := first_holds hx hw1 hb1
  have hue := up_holds (m := 2) (r := 0) (by omega) he
  have huo := up_holds (m := 2) (r := 1) (by omega) ho
  have hde := dn_holds (T := 1024) (m := 2) (r := 2) L1_zero (by omega) he
  have hdo := dn_holds (T := 1024) (m := 2) (r := 3) L1_zero (by omega) ho
  rw [feats, second_at, hb2, conv2_holds (t := fun q => 2 * q + 0) hw2 hue huo he ho hde,
    conv2_holds (t := fun q => 2 * q + 1) hw2 huo he ho hde hdo, Spec.pool, if_pos q.isLt]
  rfl

end

end Cert.KernelIdeal.Hand

end
-- ==== Proof.KNet.lean ====
/- The layers after the convolutions, read at an index: products, biases, means over the nodes, the last linear map. -/
module

public import proofs.«01_k».proof.Proof.KConv
public import Idealize.ShloMosaic.Lib.IdealHost

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- The word of one over 512. -/
theorem bits_512 : Ideal.ofBits .f32 0x3B000000#32 = ((1 / 512 : ℝ) : EReal) := by
  simp [Ideal.ofBits, Ideal.ieee, -EReal.coe_mul]; norm_num

/-- The word of one over 128. -/
theorem bits_128 : Ideal.ofBits .f32 0x3C000000#32 = ((1 / 128 : ℝ) : EReal) := by
  simp [Ideal.ofBits, Ideal.ieee, -EReal.coe_mul]; norm_num

/-- The word of two. -/
theorem bits_2 : Ideal.ofBits .f32 0x40000000#32 = ((2 : ℝ) : EReal) := by
  simp [Ideal.ofBits, Ideal.ieee, -EReal.coe_mul]; norm_num

/-- The word of a thousand million. -/
theorem bits_1e9 : Ideal.ofBits .f32 0x4E6E6B28#32 = ((1000000000 : ℝ) : EReal) := by
  simp [Ideal.ofBits, Ideal.ieee, -EReal.coe_mul]; norm_num

/-- The word of plus infinity. -/
theorem bits_top : Ideal.ofBits .f32 0x7F800000#32 = ⊤ := by
  simp [Ideal.ofBits, Ideal.ieee]

/-- The number the mark of a taken node stands for. -/
theorem named_taken : Named.named (F := Ideal) (φ := .f32) κ "taken" 0x7F61B1E6#32 = ⊤ :=
  IdealRules.named_const.ideal_named_scalar κ "taken" _ _ rfl

/-- The number a third stands for. -/
theorem named_third : Named.named (F := Ideal) (φ := .f32) κ "third" 0x3EAAAAAB#32 = ((1 / 3 : ℝ) : EReal) :=
  IdealRules.named_const.ideal_named_scalar κ "third" _ _ rfl

section
variable (f : FVec Ideal S512x32 .bf16) (W1 : Vec Ideal S32x256 .bf16) (b : Vec Ideal S1x256 .f32)
  (W2 : Vec Ideal S256x256 .bf16) (z : FVec Ideal S512x256 .f32) (y : FVec Ideal S512x256 .bf16) (M : FVec Ideal S512x512 .f32)

/-- The first product at an index. -/
theorem lin1_at (n : Fin 512) (o : Fin 256) : lin1 f W1 (ix2 n o) = ∑ c : Fin 32, f (ix2 n c) * W1 (ix2 c o) := by
  pointwise [lin1]

/-- The second product at an index. -/
theorem lin2_at (n : Fin 512) (o : Fin 256) : lin2 y W2 (ix2 n o) = ∑ c : Fin 256, y (ix2 n c) * W2 (ix2 c o) := by
  pointwise [lin2]

/-- Bias and cut at zero, at an index. -/
theorem biasRelu_at (n : Fin 512) (o : Fin 256) : biasRelu z b (ix2 n o) = max (z (ix2 n o) + b (ix2 0 o)) 0 := by
  pointwise [biasRelu]

/-- The product with the matrix of the graph, at an index. -/
theorem mix_at (n : Fin 512) (o : Fin 256) : mix M z (ix2 n o) = ∑ s : Fin 512, M (ix2 n s) * z (ix2 s o) := by
  pointwise [mix]

/-- The mean over the nodes, at an index. -/
theorem nodeMean_at (o : Fin 256) : nodeMean z (ix2 0 o) = (∑ n : Fin 512, z (ix2 n o)) * ((1 / 512 : ℝ) : EReal) := by
  rw [← bits_512]
  pointwise [nodeMean]

end

/-- Eight rows stacked and sent through the last linear map, at an index. -/
theorem head_at (r0 r1 r2 r3 r4 r5 r6 r7 : FVec Ideal S1x256 .f32) (fw : Vec Ideal S256x64 .bf16) (fb : Vec Ideal S1x64 .f32)
    (b : Fin 8) (o : Fin 64) : head r0 r1 r2 r3 r4 r5 r6 r7 fw fb (ix2 b o)
      = (∑ k : Fin 256, (![r0, r1, r2, r3, r4, r5, r6, r7] b) (ix2 0 k) * fw (ix2 k o)) + fb (ix2 0 o) := by
  pointwise [head]
  fin_vals b with hb
  all_goals simp only [hb, Nat.reduceSub, Nat.reduceLT, ↓reduceDIte]
  all_goals (obtain ⟨v, hv⟩ := b; simp only at hb; subst hb; rfl)

/-! ## One batch, one block -/

/-- The mean over the nodes of a batch sent through both graph layers, `g` the mixing of the nodes. -/
def rowOf (g : (Fin 512 → Fin 256 → EReal) → Fin 512 → Fin 256 → EReal) (fe : Fin 512 → Fin 32 → EReal)
    (A : Spec.Args) (o : Fin 256) : EReal :=
  (∑ n : Fin 512, max (g (fun n k => ∑ c : Fin 256, max (g (fun n k => ∑ c : Fin 32, fe n c * A.W1 c k) n c + A.b1 c) 0
    * A.W2 c k) n o + A.b2 o) 0) * ((1 / 512 : ℝ) : EReal)

/-- The blocks of the two graph layers and of the last map hold the arguments. -/
structure NetHolds (A : Spec.Args) (W1 : Vec Ideal S32x256 .bf16) (b1 : Vec Ideal S1x256 .f32)
    (W2 : Vec Ideal S256x256 .bf16) (b2 : Vec Ideal S1x256 .f32) (fw : Vec Ideal S256x64 .bf16)
    (fb : Vec Ideal S1x64 .f32) : Prop where
  /-- the first matrix -/
  hW1 : ∀ c o, W1 (ix2 c o) = A.W1 c o
  /-- the first bias -/
  hb1 : ∀ o, b1 (ix2 0 o) = A.b1 o
  /-- the second matrix -/
  hW2 : ∀ c o, W2 (ix2 c o) = A.W2 c o
  /-- the second bias -/
  hb2 : ∀ o, b2 (ix2 0 o) = A.b2 o
  /-- the last matrix -/
  hfw : ∀ c o, fw (ix2 c o) = A.fw c o
  /-- the last bias -/
  hfb : ∀ o, fb (ix2 0 o) = A.fb o

section
variable {A : Spec.Args} {W1 : Vec Ideal S32x256 .bf16} {b1 : Vec Ideal S1x256 .f32}
    {W2 : Vec Ideal S256x256 .bf16} {b2 : Vec Ideal S1x256 .f32} {fw : Vec Ideal S256x64 .bf16}
    {fb : Vec Ideal S1x64 .f32} (H : NetHolds A W1 b1 W2 b2 fw fb) {fe : Fin 512 → Fin 32 → EReal}
    {f : FVec Ideal S512x32 .bf16} (hf : ∀ n c, f (ix2 n c) = fe n c)

include H hf in
/-- A batch outside the graph. -/
theorem plainRow_at (o : Fin 256) : plainRow f W1 b1 W2 b2 (ix2 0 o) = rowOf id fe A o := by
  rw [plainRow, nodeMean_at, rowOf]
  simp only [biasRelu_at, lin2_at, truncf_apply, Ideal.truncf_def, lin1_at, hf, H.hW1, H.hb1, H.hW2, H.hb2, id]

include H hf in
/-- The batch of the graph, its matrix acting as `g`. -/
theorem graphRow_at {M : FVec Ideal S512x512 .f32} {g : (Fin 512 → Fin 256 → EReal) → Fin 512 → Fin 256 → EReal}
    (hM : ∀ z r o, ∑ s : Fin 512, M (ix2 r s) * z s o = g z r o) (o : Fin 256) :
    graphRow M f W1 b1 W2 b2 (ix2 0 o) = rowOf g fe A o := by
  rw [graphRow, nodeMean_at, rowOf]
  simp only [biasRelu_at, mix_at, lin2_at, truncf_apply, Ideal.truncf_def, lin1_at, hf, H.hW1, H.hb1, H.hW2, H.hb2, ← hM]

end

/-- The columns of one batch. -/
theorem cols_holds {h : FVec Ideal S512x256 .bf16} {fe : Fin 8 → Fin 512 → Fin 32 → EReal}
    (hh : ∀ n b c, h (ix2 n (col32 b c)) = fe b n c) (b : Fin 8) {a : FVec Ideal S512x32 .bf16}
    (ha : ∀ n c, a (ix2 n c) = h (ix2 n (col32 b c))) (n : Fin 512) (c : Fin 32) : a (ix2 n c) = fe b n c :=
  (ha n c).trans (hh n b c)

section
variable {A : Spec.Args} {W1 : Vec Ideal S32x256 .bf16} {b1 : Vec Ideal S1x256 .f32}
    {W2 : Vec Ideal S256x256 .bf16} {b2 : Vec Ideal S1x256 .f32} {fw : Vec Ideal S256x64 .bf16}
    {fb : Vec Ideal S1x64 .f32} (H : NetHolds A W1 b1 W2 b2 fw fb) {fe : Fin 8 → Fin 512 → Fin 32 → EReal}

include H in
/-- A block with its first row given. -/
theorem headWith_at {h : FVec Ideal S512x256 .bf16} (hh : ∀ n b c, h (ix2 n (col32 b c)) = fe b n c)
    {r0 : FVec Ideal S1x256 .f32} {g : (Fin 512 → Fin 256 → EReal) → Fin 512 → Fin 256 → EReal}
    (hr : ∀ o, r0 (ix2 0 o) = rowOf g (fe 0) A o) (b : Fin 8) (o : Fin 64) :
    headWith r0 h W1 b1 W2 b2 fw fb (ix2 b o)
      = (∑ k : Fin 256, rowOf (if b = 0 then g else id) (fe b) A k * A.fw k o) + A.fb o := by
  rw [headWith, head_at, H.hfb]
  refine congrArg (· + A.fb o) (Finset.sum_congr rfl fun k _ => ?_)
  rw [H.hfw]
  refine congrArg (· * A.fw k o) ?_
  fin_vals b with hb
  all_goals (obtain ⟨v, hv⟩ := b; simp only at hb; subst hb)
  · exact hr k
  · exact plainRow_at H (cols_holds hh 1 fun n c => by pointwise [cols]; rfl) k
  · exact plainRow_at H (cols_holds hh 2 fun n c => by pointwise [cols]; rfl) k
  · exact plainRow_at H (cols_holds hh 3 fun n c => by pointwise [cols]; rfl) k
  · exact plainRow_at H (cols_holds hh 4 fun n c => by pointwise [cols]; rfl) k
  · exact plainRow_at H (cols_holds hh 5 fun n c => by pointwise [cols]; rfl) k
  · exact plainRow_at H (cols_holds hh 6 fun n c => by pointwise [cols]; rfl) k
  · exact plainRow_at H (cols_holds hh 7 fun n c => by pointwise [cols]; rfl) k

include H in
/-- A block of batches outside the graph. -/
theorem plainBlock_at {h : FVec Ideal S512x256 .f32} (hh : ∀ n b c, h (ix2 n (col32 b c)) = fe b n c) (b : Fin 8)
    (o : Fin 64) : plainBlock h W1 b1 W2 b2 fw fb (ix2 b o)
      = (∑ k : Fin 256, rowOf id (fe b) A k * A.fw k o) + A.fb o := by
  have hh' : ∀ n b c, (truncf .bf16 h bitsLt_bf16_f32 : FVec Ideal S512x256 .bf16) (ix2 n (col32 b c)) = fe b n c := hh
  rw [plainBlock, headWith_at H hh' (g := id) fun o => plainRow_at H (cols_holds hh' 0 fun n c => by
    pointwise [cols]; exact congrArg h (congrArg (ix2 n) (Fin.ext (by show c.val = 32 * 0 + c.val; omega)))) o]
  rw [ite_self]

include H in
/-- The first block: its first batch mixed by the graph. -/
theorem graphBlock_at {h : FVec Ideal S512x256 .f32} (hh : ∀ n b c, h (ix2 n (col32 b c)) = fe b n c)
    {mean : FVec Ideal S512x32 .f32} {g : (Fin 512 → Fin 256 → EReal) → Fin 512 → Fin 256 → EReal}
    (hM : ∀ z r o, ∑ s : Fin 512, graph mean (ix2 r s) * z s o = g z r o) (b : Fin 8)
    (o : Fin 64) : graphBlock mean h W1 b1 W2 b2 fw fb (ix2 b o)
      = (∑ k : Fin 256, rowOf (if b = 0 then g else id) (fe b) A k * A.fw k o) + A.fb o := by
  have hh' : ∀ n b c, (truncf .bf16 h bitsLt_bf16_f32 : FVec Ideal S512x256 .bf16) (ix2 n (col32 b c)) = fe b n c := hh
  rw [graphBlock, headWith_at H hh' (g := g) fun o => graphRow_at H (cols_holds hh' 0 fun n c => by
    pointwise [cols]; exact congrArg h (congrArg (ix2 n) (Fin.ext (by show c.val = 32 * 0 + c.val; omega)))) hM o]

end

end Cert.KernelIdeal.Hand

end
-- ==== Proof.Finite.lean ====
/- With finite signals, finite weights of the convolutions and a finite bias of the first, every channel of the features
   is finite or is plus infinity throughout, and no distance of two nodes is plus infinity. -/
module

public import proofs.«01_k».proof.Proof.Spec

@[expose] public section

noncomputable section

namespace Cert.Spec

/-- A number that is neither of the two infinities. -/
def IsReal (a : EReal) : Prop := ∃ r : ℝ, a = r

/-- Zero is finite. -/
theorem isReal_zero : IsReal 0 := ⟨0, by simp⟩

/-- A sum of two finite numbers is finite. -/
theorem IsReal.add {a b : EReal} (ha : IsReal a) (hb : IsReal b) : IsReal (a + b) := by
  obtain ⟨r, rfl⟩ := ha; obtain ⟨s, rfl⟩ := hb; exact ⟨r + s, by rw [EReal.coe_add]⟩

/-- A difference of finite numbers is finite. -/
theorem IsReal.sub {a b : EReal} (ha : IsReal a) (hb : IsReal b) : IsReal (a - b) := by
  obtain ⟨r, rfl⟩ := ha; obtain ⟨s, rfl⟩ := hb; exact ⟨r - s, by rw [EReal.coe_sub]⟩

/-- A product of finite numbers is finite. -/
theorem IsReal.mul {a b : EReal} (ha : IsReal a) (hb : IsReal b) : IsReal (a * b) := by
  obtain ⟨r, rfl⟩ := ha; obtain ⟨s, rfl⟩ := hb; exact ⟨r * s, by rw [EReal.coe_mul]⟩

/-- The larger of two finite numbers is finite. -/
theorem IsReal.max {a b : EReal} (ha : IsReal a) (hb : IsReal b) : IsReal (max a b) := by
  rcases max_choice a b with h | h <;> rw [h] <;> assumption

/-- A sum of finite numbers is finite. -/
theorem isReal_sum {ι : Type} (s : Finset ι) (f : ι → EReal) (h : ∀ i, IsReal (f i)) : IsReal (∑ i ∈ s, f i) := by
  classical
  induction s using Finset.induction_on with
  | empty => rw [Finset.sum_empty]; exact isReal_zero
  | insert a s ha ih => rw [Finset.sum_insert ha]; exact (h a).add ih

/-- What the two convolutions convolve is finite. -/
structure Args.Finite (A : Args) : Prop where
  /-- the signals -/
  hx : ∀ b i n, IsReal (A.x b i n)
  /-- the first convolution's weights -/
  hk1 : ∀ o i k, IsReal (A.k1 o i k)
  /-- the first convolution's bias -/
  hc1 : ∀ o, IsReal (A.c1 o)
  /-- the second convolution's weights -/
  hk2 : ∀ o i k, IsReal (A.k2 o i k)

/-- Pooling finite numbers, with a finite bias, gives finite numbers. -/
theorem isReal_pool {c : ℕ → EReal} {b : EReal} (hc : ∀ n, IsReal (c n)) (hb : IsReal b) (T s : ℕ) :
    IsReal (pool c b T s) := by
  unfold pool
  split
  · exact (((hc _).max (hc _)).add hb).max isReal_zero
  · exact isReal_zero

/-- A convolution of finite numbers is finite. -/
theorem isReal_convAt {f : Fin 16 → ℕ → EReal} {w : Fin 16 → Fin 5 → EReal} (hf : ∀ i n, IsReal (f i n))
    (hw : ∀ i k, IsReal (w i k)) (n : ℕ) : IsReal (convAt f w n) := by
  refine isReal_sum _ _ fun k => isReal_sum _ _ fun i => IsReal.mul ?_ (hw i k)
  unfold padded
  split
  · exact hf _ _
  · exact isReal_zero

/-- A pooled number is not negative. -/
theorem pool_nonneg (c : ℕ → EReal) (b : EReal) (T s : ℕ) : 0 ≤ pool c b T s := by
  unfold pool
  split
  · exact le_max_right _ _
  · exact le_rfl

/-- The features are not negative. -/
theorem feat_nonneg (A : Args) (b : Fin 128) (n : Fin 512) (k : Fin 32) : 0 ≤ feat A b n k := pool_nonneg _ _ _ _

/-- The mean is not negative. -/
theorem mean_nonneg (A : Args) (n : Fin 512) (k : Fin 32) : 0 ≤ mean A n k :=
  mul_nonneg (Finset.sum_nonneg fun b _ => feat_nonneg A b n k) (by exact_mod_cast (by norm_num : (0 : ℝ) ≤ 1 / 128))

/-- A sum of numbers that are not negative, one of them plus infinity, is plus infinity. -/
theorem sum_top {ι : Type} (s : Finset ι) (f : ι → EReal) (h : ∀ i, 0 ≤ f i) (i : ι) (hi : i ∈ s) (ht : f i = ⊤) :
    ∑ i ∈ s, f i = ⊤ := top_le_iff.1 (ht ▸ Finset.single_le_sum (fun j _ => h j) hi)

variable {A : Args} (H : A.Finite)

include H

/-- A channel of the features is finite, or it is plus infinity throughout. -/
theorem feat_real_or_top (c : Fin 32) : (∀ b n, IsReal (feat A b n c)) ∨ ∀ b n, feat A b n c = ⊤ := by
  have hc : ∀ b n, IsReal (convAt (lay1 A b) (A.k2 c) n) := fun b =>
    isReal_convAt (fun i => isReal_pool (fun n => isReal_convAt (fun i n => by
      unfold sig
      split
      · exact H.hx _ _ _
      · exact isReal_zero) (H.hk1 _) n) (H.hc1 _) _) (H.hk2 c)
  have step : ∀ b (n : Fin 512), ∃ r : ℝ, feat A b n c = max ((r : EReal) + A.c2 c) 0 := fun b n => by
    obtain ⟨r, hr⟩ := (hc b (2 * n.val)).max (hc b (2 * n.val + 1))
    exact ⟨r, by rw [feat, lay2, pool, if_pos n.isLt, hr]⟩
  induction hb : A.c2 c with
  | bot =>
    refine Or.inl fun b n => ?_
    obtain ⟨r, hr⟩ := step b n
    rw [hr, hb, EReal.add_bot, max_eq_right bot_le]
    exact isReal_zero
  | top =>
    refine Or.inr fun b n => ?_
    obtain ⟨r, hr⟩ := step b n
    rw [hr, hb, EReal.coe_add_top, max_eq_left le_top]
  | coe q =>
    refine Or.inl fun b n => ?_
    obtain ⟨r, hr⟩ := step b n
    rw [hr, hb]
    exact (IsReal.add ⟨r, rfl⟩ ⟨q, rfl⟩).max isReal_zero

/-- A channel of the mean is finite, or it is plus infinity throughout. -/
theorem mean_real_or_top (c : Fin 32) : (∀ n, IsReal (mean A n c)) ∨ ∀ n, mean A n c = ⊤ := by
  rcases feat_real_or_top H c with h | h
  · exact Or.inl fun n => (isReal_sum _ _ fun b => h b n).mul ⟨_, rfl⟩
  · refine Or.inr fun n => ?_
    rw [mean, sum_top _ _ (fun b => feat_nonneg A b n c) 0 (Finset.mem_univ _) (h 0 n)]
    exact EReal.top_mul_coe_of_pos (by norm_num)

/-- No distance is plus infinity: it is finite, or, where a channel is plus infinity throughout, minus infinity. -/
theorem dist_ne_top (r s : Fin 512) : dist (mean A) r s ≠ ⊤ := by
  by_cases h : ∀ c n, IsReal (mean A n c)
  · obtain ⟨x, hx⟩ : IsReal (dist (mean A) r s) := by
      refine IsReal.add (IsReal.sub (IsReal.add ?_ ?_) (IsReal.mul ⟨_, rfl⟩ ?_)) ?_
      · exact isReal_sum _ _ fun k => (h _ _).mul (h _ _)
      · exact isReal_sum _ _ fun k => (h _ _).mul (h _ _)
      · exact isReal_sum _ _ fun k => (h _ _).mul (h _ _)
      · split
        · exact ⟨_, rfl⟩
        · exact isReal_zero
    rw [hx]
    exact EReal.coe_ne_top x
  · obtain ⟨c, hc⟩ := not_forall.1 h
    have ht := (mean_real_or_top H c).resolve_left hc
    have hg : ∑ k : Fin 32, mean A r k * mean A s k = ⊤ :=
      sum_top _ _ (fun k => mul_nonneg (mean_nonneg A r k) (mean_nonneg A s k)) c (Finset.mem_univ _) (by
        rw [ht, ht, EReal.top_mul_top])
    rw [dist, hg, EReal.coe_mul_top_of_pos (by norm_num), sub_eq_add_neg, EReal.neg_top, EReal.add_bot, EReal.bot_add]
    exact bot_ne_top

end Cert.Spec

end
-- ==== Proof.KMean.lean ====
/- The mean over the batches, gathered block by block with a compensation that changes nothing over the extended reals: it
   is the sum of the features over all batches times one over their number. -/
module

public import proofs.«01_k».proof.Proof.KNet
public import proofs.«01_k».proof.Proof.Finite
public import proofs.«01_k».proof.Proof.Carry

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- What a block adds to the mean, at an index. -/
theorem share_at (h : FVec Ideal S512x256 .f32) (n : Fin 512) (c : Fin 32) :
    share h (ix2 n c) = (∑ b : Fin 8, h (ix2 n (col32 b c))) * ((1 / 128 : ℝ) : EReal) := by
  rw [← bits_128]
  pointwise [share]
  refine congrArg (· * _) (Finset.sum_congr rfl fun b _ => congrArg h (congrArg (ix2 n) (Fin.ext ?_)))
  show b.val * 32 + c.val = 32 * b.val + c.val
  omega

/-- The mean after a block, at an index. -/
theorem meanStep_at (p a b : FVec Ideal S512x32 .f32) (j : S512x32.Idx) : meanStep p a b j = a j + (p j - b j) := by
  pointwise [meanStep]

/-- The compensation after a block, at an index. -/
theorem compStep_at (p a b : FVec Ideal S512x32 .f32) (j : S512x32.Idx) :
    compStep p a b j = (a j + (p j - b j) - a j) - (p j - b j) := by
  pointwise [compStep, meanStep]

/-- The batch at place `b` of the block of batches `g`. -/
def batch (g : ℕ) (b : Fin 8) : Fin 128 := ⟨(8 * g + b.val) % 128, Nat.mod_lt _ (by norm_num)⟩

/-- The block of batches a point works on: the blocks from the second on, the first block last. -/
def grp (t : ℕ) : ℕ := if t < 15 then t + 1 else 0

/-- A sum over blocks of batches of sums over a block is a sum over all batches. -/
theorem sum_batches (f : Fin 128 → EReal) : ∑ t ∈ Finset.range 16, ∑ b : Fin 8, f (batch (grp t) b) = ∑ b, f b := by
  have e : ∑ t ∈ Finset.range 16, ∑ b : Fin 8, f (batch (grp t) b) = ∑ g ∈ Finset.range 16, ∑ b : Fin 8, f (batch g b) := by
    rw [Finset.sum_range_succ, Finset.sum_range_succ' _ 15]
    refine congrArg₂ (· + ·) (Finset.sum_congr rfl fun t ht => ?_) rfl
    rw [grp, if_pos (Finset.mem_range.1 ht)]
  rw [e, Finset.sum_range, ← Fintype.sum_prod_type', ← Equiv.sum_comp (finProdFinEquiv (m := 16) (n := 8))]
  refine Finset.sum_congr rfl fun p _ => congrArg f (Fin.ext ?_)
  simp [finProdFinEquiv, batch]; omega

variable (m : (loc : Loc nD τ sig) → Buf (Elt Ideal) loc) {A : Spec.Args} (H : A.Finite) (c : Dev nD)
  (hft : ∀ t q b o, t < 16 → ft m c (pt t) (ix2 q (col32 b o)) = Spec.feat A (batch (grp t) b) q o)

include hft in
/-- What a point adds to the mean. -/
theorem share_ft (t : ℕ) (ht : t < 16) (n : Fin 512) (k : Fin 32) :
    share (ft m c (pt t)) (ix2 n k) = (∑ b : Fin 8, Spec.feat A (batch (grp t) b) n k) * ((1 / 128 : ℝ) : EReal) := by
  rw [share_at]
  simp only [hft t _ _ _ ht]

include hft in
/-- The mean and the compensation after a point, in a channel of finite features: the compensation stays zero. -/
theorem acc_real (n : Fin 512) (k : Fin 32) (hk : ∀ b, Spec.IsReal (Spec.feat A b n k)) (t : ℕ) (ht : t < 16) :
    (acc m c t).1 (ix2 n k) = ∑ i ∈ Finset.range (t + 1), share (ft m c (pt i)) (ix2 n k)
      ∧ (acc m c t).2 (ix2 n k) = 0 := by
  have real : ∀ i, i < 16 → Spec.IsReal (share (ft m c (pt i)) (ix2 n k)) := fun i hi => by
    rw [share_ft m c hft i hi]
    exact (Spec.isReal_sum _ _ fun b => hk _).mul ⟨_, rfl⟩
  induction t with
  | zero =>
    rw [Finset.sum_range_one]
    refine ⟨rfl, ?_⟩
    show comp0 (ix2 n k) = 0
    pointwise [comp0]
  | succ t ih =>
    obtain ⟨h1, h2⟩ := ih (by omega)
    have hsum : Spec.IsReal (∑ i ∈ Finset.range (t + 1), share (ft m c (pt i)) (ix2 n k)) := by
      rw [Finset.sum_congr rfl (g := fun i => if i < 16 then share (ft m c (pt i)) (ix2 n k) else 0) fun i hi => by
        rw [if_pos (by have := Finset.mem_range.1 hi; omega)]]
      refine Spec.isReal_sum _ _ fun i => ?_
      split
      · exact real i (by assumption)
      · exact Spec.isReal_zero
    obtain ⟨a, ha⟩ := hsum
    obtain ⟨p, hp⟩ := real (t + 1) ht
    constructor
    · show meanStep _ _ _ _ = _
      rw [meanStep_at, h1, h2, sub_zero, Finset.sum_range_succ _ (t + 1)]
    · show compStep _ _ _ _ = _
      rw [compStep_at, h1, h2, sub_zero, ha, hp, ← EReal.coe_add, ← EReal.coe_sub, ← EReal.coe_sub]
      simp

include hft in
/-- The mean and the compensation after a point, in a channel that is plus infinity: so are the mean and the sum of what
    the points add, and the compensation never is. -/
theorem acc_top (n : Fin 512) (k : Fin 32) (hk : ∀ b, Spec.feat A b n k = ⊤) (t : ℕ) (ht : t < 16) :
    (acc m c t).1 (ix2 n k) = ⊤ ∧ ∑ i ∈ Finset.range (t + 1), share (ft m c (pt i)) (ix2 n k) = (⊤ : EReal)
      ∧ (acc m c t).2 (ix2 n k) ≠ ⊤ := by
  have top : ∀ i, i < 16 → share (ft m c (pt i)) (ix2 n k) = (⊤ : EReal) := fun i hi => by
    rw [share_ft m c hft i hi, Spec.sum_top _ _ (fun b => Spec.feat_nonneg A _ n k) 0 (Finset.mem_univ _) (hk _)]
    exact EReal.top_mul_coe_of_pos (by norm_num)
  induction t with
  | zero =>
    refine ⟨top 0 ht, by rw [Finset.sum_range_one, top 0 ht], ?_⟩
    have e : comp0 (F := Ideal) (ix2 n k) = (0 : EReal) := by pointwise [comp0]
    show comp0 (F := Ideal) (ix2 n k) ≠ (⊤ : EReal)
    rw [e]
    exact EReal.zero_ne_top
  | succ t ih =>
    obtain ⟨h1, hs, h2⟩ := ih (by omega)
    have hy : share (ft m c (pt (t + 1))) (ix2 n k) - (acc m c t).2 (ix2 n k) = (⊤ : EReal) := by
      rw [top (t + 1) ht, sub_eq_add_neg]
      exact EReal.top_add_of_ne_bot fun e => h2 (EReal.neg_eq_bot_iff.1 e)
    refine ⟨?_, by rw [Finset.sum_range_succ, hs, top (t + 1) ht, EReal.top_add_top], ?_⟩
    · show meanStep _ _ _ _ = _
      rw [meanStep_at, h1, hy, EReal.top_add_top]
    · show compStep _ _ _ _ ≠ _
      rw [compStep_at, h1, hy, EReal.top_add_top, sub_eq_add_neg _ (⊤ : EReal), EReal.neg_top, EReal.add_bot]
      exact bot_ne_top

include H hft in
/-- The mean after the last block is the sum of what the blocks add. -/
theorem acc_at (n : Fin 512) (k : Fin 32) :
    (acc m c 15).1 (ix2 n k) = ∑ i ∈ Finset.range 16, share (ft m c (pt i)) (ix2 n k) := by
  rcases Spec.feat_real_or_top H k with h | h
  · exact (acc_real m c hft n k (fun b => h b n) 15 (by norm_num)).1
  · obtain ⟨h1, h2, -⟩ := acc_top m c hft n k (fun b => h b n) 15 (by norm_num)
    exact h1.trans h2.symm

include H hft in
/-- The mean at the end. -/
theorem mean_at (n : Fin 512) (k : Fin 32) : (acc m c 15).1 (ix2 n k) = Spec.mean A n k := by
  rw [acc_at m H c hft n k, Spec.mean, ← sum_batches]
  have key : ∀ u, u ≤ 16 → ∑ i ∈ Finset.range u, share (ft m c (pt i)) (ix2 n k)
      = (∑ i ∈ Finset.range u, ∑ b : Fin 8, Spec.feat A (batch (grp i) b) n k) * ((1 / 128 : ℝ) : EReal) := by
    intro u hu
    induction u with
    | zero => simp
    | succ u ih =>
      rw [Finset.sum_range_succ, ih (by omega), Finset.sum_range_succ, share_ft m c hft u (by omega),
        EReal.right_distrib_of_nonneg (Finset.sum_nonneg fun i _ => Finset.sum_nonneg fun b _ => Spec.feat_nonneg A _ _ _)
          (Finset.sum_nonneg fun b _ => Spec.feat_nonneg A _ _ _)]
  exact key 16 le_rfl

end Cert.KernelIdeal.Hand

end
-- ==== Proof.KHost.lean ====
/- The arrays the launch finds, read at an index from the arguments. -/
module

public import proofs.«01_k».proof.Proof.KMean
public import Idealize.ShloMosaic.Lib.StableHlo.RunRead

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable (m : (loc : Loc nD τ sig) → Buf (Elt Ideal) loc) (c : Dev nD)

/-- The five blocks of one array laid one after another. -/
def stack1 (a0 a1 a2 a3 a4 : Vec Ideal S1x128x128 .f32) : Vec Ideal S5x128x128 .f32 :=
  concatenate S5x128x128 0 [⟨S1x128x128, a0⟩, ⟨S1x128x128, a1⟩, ⟨S1x128x128, a2⟩, ⟨S1x128x128, a3⟩, ⟨S1x128x128, a4⟩]
    concatenates_S1x128x128_S1x128x128_S1x128x128_S1x128x128_S1x128x128_S5x128x128_d0

/-- The same for the second layer. -/
def stack2 (a0 a1 a2 a3 a4 : Vec Ideal S1x128x256 .f32) : Vec Ideal S5x128x256 .f32 :=
  concatenate S5x128x256 0 [⟨S1x128x256, a0⟩, ⟨S1x128x256, a1⟩, ⟨S1x128x256, a2⟩, ⟨S1x128x256, a3⟩, ⟨S1x128x256, a4⟩]
    concatenates_S1x128x256_S1x128x256_S1x128x256_S1x128x256_S1x128x256_S5x128x256_d0

/-- Equal parts stack to equal first weights. -/
theorem stack1_congr {a0 a1 a2 a3 a4 b0 b1 b2 b3 b4} (h0 : a0 = b0) (h1 : a1 = b1) (h2 : a2 = b2) (h3 : a3 = b3)
    (h4 : a4 = b4) : stack1 a0 a1 a2 a3 a4 = stack1 b0 b1 b2 b3 b4 := by
  subst h0 h1 h2 h3 h4; rfl

/-- Equal parts stack to equal second weights. -/
theorem stack2_congr {a0 a1 a2 a3 a4 b0 b1 b2 b3 b4} (h0 : a0 = b0) (h1 : a1 = b1) (h2 : a2 = b2) (h3 : a3 = b3)
    (h4 : a4 = b4) : stack2 a0 a1 a2 a3 a4 = stack2 b0 b1 b2 b3 b4 := by
  subst h0 h1 h2 h3 h4; rfl

/-- The unit matrix of size eight. -/
def eye8 : FVec Ideal S8x8 .f32 :=
  uitofp .f32 (cmpi .eq (addi (iotaInDim S8x8 32 0) (broadcastInDim S8x8 ![] bcast_S_S8x8 (constantI S_ 32 0#32)))
    (iotaInDim S8x8 32 1))

/-- One tap of the first layer's weights, input channel first. -/
def wtap1 (off : Fin 3 → ℕ) (a : FVec Ideal S16x16x5 .f32) (h : S16x16x5.Slices off S16x16x1) : FVec Ideal S16x16 .f32 :=
  transpose S16x16 [1, 0] (shapeCast S16x16 (extractStridedSlice S16x16x1 off a h) shapeCasts_S16x16x1_S16x16)
    transposes_S16x16_S16x16_1_0

/-- One tap of the second layer's weights, input channel first. -/
def wtap2 (off : Fin 3 → ℕ) (a : FVec Ideal S32x16x5 .f32) (h : S32x16x5.Slices off S32x16x1) : FVec Ideal S16x32 .f32 :=
  transpose S16x32 [1, 0] (shapeCast S32x16 (extractStridedSlice S32x16x1 off a h) shapeCasts_S32x16x1_S32x16)
    transposes_S32x16_S16x32_1_0

/-- Eight copies of a matrix along the diagonal. -/
def diag1 (w : FVec Ideal S16x16 .f32) : FVec Ideal S1x128x128 .f32 :=
  broadcastInDim S1x128x128 ![1, 2] bcast_S128x128_S1x128x128_1_2
    (shapeCast S128x128
      (mulf
        (broadcastInDim S8x16x8x16 ![0, 1, 2, 3] bcast_S8x1x8x1_S8x16x8x16_0_1_2_3
          (broadcastInDim S8x1x8x1 ![0, 2] bcast_S8x8_S8x1x8x1_0_2 eye8))
        (broadcastInDim S8x16x8x16 ![0, 1, 2, 3] bcast_S1x16x1x16_S8x16x8x16_0_1_2_3
          (broadcastInDim S1x16x1x16 ![1, 3] bcast_S16x16_S1x16x1x16_1_3 w)))
      shapeCasts_S8x16x8x16_S128x128)

/-- The same for the second layer. -/
def diag2 (w : FVec Ideal S16x32 .f32) : FVec Ideal S1x128x256 .f32 :=
  broadcastInDim S1x128x256 ![1, 2] bcast_S128x256_S1x128x256_1_2
    (shapeCast S128x256
      (mulf
        (broadcastInDim S8x16x8x32 ![0, 1, 2, 3] bcast_S8x1x8x1_S8x16x8x32_0_1_2_3
          (broadcastInDim S8x1x8x1 ![0, 2] bcast_S8x8_S8x1x8x1_0_2 eye8))
        (broadcastInDim S8x16x8x32 ![0, 1, 2, 3] bcast_S1x16x1x32_S8x16x8x32_0_1_2_3
          (broadcastInDim S1x16x1x32 ![1, 3] bcast_S16x32_S1x16x1x32_1_3 w)))
      shapeCasts_S8x16x8x32_S128x256)

/-- The first layer's weights as the launch finds them. -/
def weights1 (a : FVec Ideal S16x16x5 .f32) : FVec Ideal S5x128x128 .bf16 :=
  truncf .bf16 (stack1 (diag1 (wtap1 ![0, 0, 0] a slices_S16x16x5_S16x16x1_0_0_0))
    (diag1 (wtap1 ![0, 0, 1] a slices_S16x16x5_S16x16x1_0_0_1))
    (diag1 (wtap1 ![0, 0, 2] a slices_S16x16x5_S16x16x1_0_0_2))
    (diag1 (wtap1 ![0, 0, 3] a slices_S16x16x5_S16x16x1_0_0_3))
    (diag1 (wtap1 ![0, 0, 4] a slices_S16x16x5_S16x16x1_0_0_4)) : FVec Ideal S5x128x128 .f32) bitsLt_bf16_f32

/-- The second layer's weights as the launch finds them. -/
def weights2 (a : FVec Ideal S32x16x5 .f32) : FVec Ideal S5x128x256 .bf16 :=
  truncf .bf16 (stack2 (diag2 (wtap2 ![0, 0, 0] a slices_S32x16x5_S32x16x1_0_0_0))
    (diag2 (wtap2 ![0, 0, 1] a slices_S32x16x5_S32x16x1_0_0_1))
    (diag2 (wtap2 ![0, 0, 2] a slices_S32x16x5_S32x16x1_0_0_2))
    (diag2 (wtap2 ![0, 0, 3] a slices_S32x16x5_S32x16x1_0_0_3))
    (diag2 (wtap2 ![0, 0, 4] a slices_S32x16x5_S32x16x1_0_0_4)) : FVec Ideal S5x128x256 .f32) bitsLt_bf16_f32

/-- The unit matrix at an entry. -/
theorem eye8_at (b b' : Fin 8) : eye8 (ix2 b b') = if b = b' then 1 else 0 := by
  pointwise [eye8]
  have h : IntOp.cmpi CmpIPredicate.eq (IntOp.addi (BitVec.ofNat 32 b.val) 0#32) (BitVec.ofNat 32 b'.val)
      = if b = b' then 1#1 else 0#1 := by
    revert b b'; decide
  rw [h]
  split
  · show (((1#1 : BitVec 1).toNat : ℝ) : EReal) = 1
    simp
  · show (((0#1 : BitVec 1).toNat : ℝ) : EReal) = 0
    simp

/-- The block diagonal matrix of a tap of the first convolution, at an index. -/
theorem diag1_at (w : FVec Ideal S16x16 .f32) (b : Fin 8) (i : Fin 16) (b' : Fin 8) (o : Fin 16) :
    diag1 w (ix3 0 (col16 b i) (col16 b' o)) = if b = b' then w (ix2 i o) else 0 := by
  pointwise [diag1]
  have e1 : (⟨(col16 b i).val / 16, by have := b.isLt; have := i.isLt; simp only [col16]; omega⟩ : Fin 8) = b :=
    Fin.ext (by have := i.isLt; simp only [col16]; omega)
  have e2 : (⟨(col16 b' o).val / 16, by have := b'.isLt; have := o.isLt; simp only [col16]; omega⟩ : Fin 8) = b' :=
    Fin.ext (by have := o.isLt; simp only [col16]; omega)
  have e3 : (⟨(col16 b i).val % 16, Nat.mod_lt _ (by norm_num)⟩ : Fin 16) = i :=
    Fin.ext (by have := i.isLt; simp only [col16]; omega)
  have e4 : (⟨(col16 b' o).val % 16, Nat.mod_lt _ (by norm_num)⟩ : Fin 16) = o :=
    Fin.ext (by have := o.isLt; simp only [col16]; omega)
  rw [e1, e2, e3, e4, eye8_at]
  split
  · rw [one_mul]
  · rw [zero_mul]

/-- The block diagonal matrix of a tap of the second convolution, at an index. -/
theorem diag2_at (w : FVec Ideal S16x32 .f32) (b : Fin 8) (i : Fin 16) (b' : Fin 8) (o : Fin 32) :
    diag2 w (ix3 0 (col16 b i) (col32 b' o)) = if b = b' then w (ix2 i o) else 0 := by
  pointwise [diag2]
  have e1 : (⟨(col16 b i).val / 16, by have := b.isLt; have := i.isLt; simp only [col16]; omega⟩ : Fin 8) = b :=
    Fin.ext (by have := i.isLt; simp only [col16]; omega)
  have e2 : (⟨(col32 b' o).val / 32, by have := b'.isLt; have := o.isLt; simp only [col32]; omega⟩ : Fin 8) = b' :=
    Fin.ext (by have := o.isLt; simp only [col32]; omega)
  have e3 : (⟨(col16 b i).val % 16, Nat.mod_lt _ (by norm_num)⟩ : Fin 16) = i :=
    Fin.ext (by have := i.isLt; simp only [col16]; omega)
  have e4 : (⟨(col32 b' o).val % 32, Nat.mod_lt _ (by norm_num)⟩ : Fin 32) = o :=
    Fin.ext (by have := o.isLt; simp only [col32]; omega)
  rw [e1, e2, e3, e4, eye8_at]
  split
  · rw [one_mul]
  · rw [zero_mul]

/-- The first layer's weights are block-diagonal. -/
theorem weights1_diag (a : FVec Ideal S16x16x5 .f32) : Diag1 (weights1 a) (fun o i k => a (ix3 o i k)) := by
  intro k b i b' o
  pointwise [weights1, stack1]
  fin_vals k with hk
  all_goals simp only [hk, Nat.reduceSub, Nat.reduceLT, ↓reduceDIte]
  all_goals
    obtain ⟨v, hv⟩ := k
    simp only at hk
    subst hk
    refine (diag1_at _ b i b' o).trans (if_congr Iff.rfl ?_ rfl)
    pointwise [wtap1]
    try exact congrArg a (congrArg (ix3 o i) (Fin.ext rfl))

/-- The second layer's weights are block-diagonal. -/
theorem weights2_diag (a : FVec Ideal S32x16x5 .f32) : Diag2 (weights2 a) (fun o i k => a (ix3 o i k)) := by
  intro k b i b' o
  pointwise [weights2, stack2]
  fin_vals k with hk
  all_goals simp only [hk, Nat.reduceSub, Nat.reduceLT, ↓reduceDIte]
  all_goals
    obtain ⟨v, hv⟩ := k
    simp only at hk
    subst hk
    refine (diag2_at _ b i b' o).trans (if_congr Iff.rfl ?_ rfl)
    pointwise [wtap2]
    try exact congrArg a (congrArg (ix3 o i) (Fin.ext rfl))

/-- What the launch finds as the signals. -/
theorem V_v0 : V m c main_v0 = shapeCast S2048x2048 (m ((c : Thread nD τ).loc main_arg0)) shapeCasts_S128x16x2048_S2048x2048 := by
  unfold V
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    hostOps0_17, hostOps0_18, hostOps0_19, hostOps0_20,
    List.flatten_cons, List.flatten_nil, List.append_nil, List.cons_append, List.nil_append]
  after_reads_simp
  rfl

/-- What the launch finds as the first layer's weights. -/
theorem V_v59 : V m c main_v59 = weights1 (m ((c : Thread nD τ).loc main_arg1)) := by
  unfold V
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    hostOps0_17, hostOps0_18, hostOps0_19, hostOps0_20,
    List.flatten_cons, List.flatten_nil, List.append_nil, List.cons_append, List.nil_append]
  after_reads_simp
  refine congrArg (fun a : FVec Ideal S5x128x128 .f32 => truncf .bf16 a bitsLt_bf16_f32) (stack1_congr ?_ ?_ ?_ ?_ ?_)
  · show StableHlo.upto _ _ _ (Proc.devRef .tc main_v27) = _
    after_reads_simp
    rfl
  · show StableHlo.upto _ _ _ (Proc.devRef .tc main_v28) = _
    after_reads_simp
    rfl
  · show StableHlo.upto _ _ _ (Proc.devRef .tc main_v29) = _
    after_reads_simp
    rfl
  · show StableHlo.upto _ _ _ (Proc.devRef .tc main_v30) = _
    after_reads_simp
    rfl
  · show StableHlo.upto _ _ _ (Proc.devRef .tc main_v31) = _
    after_reads_simp
    rfl

/-- What the launch finds as the second layer's weights. -/
theorem V_v60 : V m c main_v60 = weights2 (m ((c : Thread nD τ).loc main_arg3)) := by
  unfold V
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    hostOps0_17, hostOps0_18, hostOps0_19, hostOps0_20,
    List.flatten_cons, List.flatten_nil, List.append_nil, List.cons_append, List.nil_append]
  after_reads_simp
  refine congrArg (fun a : FVec Ideal S5x128x256 .f32 => truncf .bf16 a bitsLt_bf16_f32) (stack2_congr ?_ ?_ ?_ ?_ ?_)
  · show StableHlo.upto _ _ _ (Proc.devRef .tc main_v53) = _
    after_reads_simp
    rfl
  · show StableHlo.upto _ _ _ (Proc.devRef .tc main_v54) = _
    after_reads_simp
    rfl
  · show StableHlo.upto _ _ _ (Proc.devRef .tc main_v55) = _
    after_reads_simp
    rfl
  · show StableHlo.upto _ _ _ (Proc.devRef .tc main_v56) = _
    after_reads_simp
    rfl
  · show StableHlo.upto _ _ _ (Proc.devRef .tc main_v57) = _
    after_reads_simp
    rfl

/-- What the launch finds as the first layer's bias. -/
theorem V_v64 : V m c main_v64 = (shapeCast S1x128 (shapeCast S128 (broadcastInDim S8x16 ![0, 1] bcast_S1x16_S8x16_0_1
    (shapeCast S1x16 (m ((c : Thread nD τ).loc main_arg2) : FVec Ideal S16 .f32) shapeCasts_S16_S1x16)) shapeCasts_S8x16_S128)
      shapeCasts_S128_S1x128 : FVec Ideal S1x128 .f32) := by
  unfold V
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    hostOps0_17, hostOps0_18, hostOps0_19, hostOps0_20,
    List.flatten_cons, List.flatten_nil, List.append_nil, List.cons_append, List.nil_append]
  after_reads_simp
  rfl

/-- What the launch finds as the second layer's bias. -/
theorem V_v68 : V m c main_v68 = (shapeCast S1x256 (shapeCast S256 (broadcastInDim S8x32 ![0, 1] bcast_S1x32_S8x32_0_1
    (shapeCast S1x32 (m ((c : Thread nD τ).loc main_arg4) : FVec Ideal S32 .f32) shapeCasts_S32_S1x32)) shapeCasts_S8x32_S256)
      shapeCasts_S256_S1x256 : FVec Ideal S1x256 .f32) := by
  unfold V
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    hostOps0_17, hostOps0_18, hostOps0_19, hostOps0_20,
    List.flatten_cons, List.flatten_nil, List.append_nil, List.cons_append, List.nil_append]
  after_reads_simp
  rfl

/-- What the launch finds as window 6's array: argument 5 itself. -/
theorem V_v69 : V m c main_v69 = (truncf .bf16 (m ((c : Thread nD τ).loc main_arg5) : FVec Ideal S32x256 .f32) bitsLt_bf16_f32 : FVec Ideal S32x256 .bf16) := by
  unfold V
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    hostOps0_17, hostOps0_18, hostOps0_19, hostOps0_20,
    List.flatten_cons, List.flatten_nil, List.append_nil, List.cons_append, List.nil_append]
  after_reads_simp

/-- What the launch finds as window 8's array: argument 7 itself. -/
theorem V_v71 : V m c main_v71 = (truncf .bf16 (m ((c : Thread nD τ).loc main_arg7) : FVec Ideal S256x256 .f32) bitsLt_bf16_f32 : FVec Ideal S256x256 .bf16) := by
  unfold V
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    hostOps0_17, hostOps0_18, hostOps0_19, hostOps0_20,
    List.flatten_cons, List.flatten_nil, List.append_nil, List.cons_append, List.nil_append]
  after_reads_simp

/-- What the launch finds as window 10's array: argument 9 itself. -/
theorem V_v73 : V m c main_v73 = (truncf .bf16 (m ((c : Thread nD τ).loc main_arg9) : FVec Ideal S256x64 .f32) bitsLt_bf16_f32 : FVec Ideal S256x64 .bf16) := by
  unfold V
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    hostOps0_17, hostOps0_18, hostOps0_19, hostOps0_20,
    List.flatten_cons, List.flatten_nil, List.append_nil, List.cons_append, List.nil_append]
  after_reads_simp

/-- What the launch finds as window 7's array: argument 6 as one row. -/
theorem V_v70 : V m c main_v70 = shapeCast S1x256 (m ((c : Thread nD τ).loc main_arg6) : FVec Ideal S256 .f32) shapeCasts_S256_S1x256 := by
  unfold V
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    hostOps0_17, hostOps0_18, hostOps0_19, hostOps0_20,
    List.flatten_cons, List.flatten_nil, List.append_nil, List.cons_append, List.nil_append]
  after_reads_simp
  rfl

/-- What the launch finds as window 9's array: argument 8 as one row. -/
theorem V_v72 : V m c main_v72 = shapeCast S1x256 (m ((c : Thread nD τ).loc main_arg8) : FVec Ideal S256 .f32) shapeCasts_S256_S1x256 := by
  unfold V
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    hostOps0_17, hostOps0_18, hostOps0_19, hostOps0_20,
    List.flatten_cons, List.flatten_nil, List.append_nil, List.cons_append, List.nil_append]
  after_reads_simp
  rfl

/-- What the launch finds as window 11's array: argument 10 as one row. -/
theorem V_v74 : V m c main_v74 = shapeCast S1x64 (m ((c : Thread nD τ).loc main_arg10) : FVec Ideal S64 .f32) shapeCasts_S64_S1x64 := by
  unfold V
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    hostOps0_17, hostOps0_18, hostOps0_19, hostOps0_20,
    List.flatten_cons, List.flatten_nil, List.append_nil, List.cons_append, List.nil_append]
  after_reads_simp
  rfl

end Cert.KernelIdeal.Hand

end
-- ==== Proof.KGraph.lean ====
/- The matrix of the graph, read at an index: the squared distances and the eight rounds that pick the nearest nodes. -/
module

public import proofs.«01_k».proof.Proof.KNet

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- Comparing two small numbers as words compares the numbers. -/
theorem cmpi_small (r s : Fin 512) :
    IntOp.cmpi CmpIPredicate.eq (BitVec.ofNat 32 r.val) (BitVec.ofNat 32 s.val) = BitVec.ofBool (decide (r = s)) := by
  by_cases h : r = s
  · subst h; simp [IntOp.cmpi]
  · have h' : ¬ (BitVec.ofNat 32 r.val = BitVec.ofNat 32 s.val) := fun e => h (Fin.ext (by
      have := congrArg BitVec.toNat e
      simp only [BitVec.toNat_ofNat] at this
      omega))
    rw [IntOp.cmpi, beq_eq_false_iff_ne.2 h', decide_eq_false h]

/-- A selection by the word of a decision. -/
theorem select_bool {α : Type} (p : Prop) [Decidable p] (a b : α) :
    Scalar.select (BitVec.ofBool (decide p)) a b = if p then a else b := by
  by_cases h : p <;> simp [h, Scalar.select]

/-- The squared distances at an index. -/
theorem dist0_at (mean : FVec Ideal S512x32 .f32) (r s : Fin 512) :
    dist0 mean (ix2 r s) = Spec.dist (fun n c => mean (ix2 n c)) r s := by
  rw [Spec.dist, ← bits_2, ← bits_1e9]
  pointwise [dist0, k0_pay57, k0_pay56]
  rw [cmpi_small, select_bool]

/-- An entry meets the minimum of its row exactly when it is least. -/
theorem eq_fold_min (d : Fin 512 → EReal) (s : Fin 512) :
    d s = Finset.fold min ⊤ d Finset.univ ↔ ∀ s', d s ≤ d s' := by
  have hm : ∀ x, Finset.fold min ⊤ d Finset.univ ≤ d x := fun x =>
    ((Finset.le_fold_min (s := Finset.univ) (f := d) (b := ⊤) _).1 le_rfl).2 x (Finset.mem_univ _)
  refine ⟨fun h s' => h ▸ hm s', fun h => le_antisymm ?_ (hm s)⟩
  exact (Finset.le_fold_min (s := Finset.univ) (f := d) (b := ⊤) _).2 ⟨le_top, fun x _ => h x⟩

/-- The least of two words, read as integers. -/
theorem toInt_minsi (a b : BitVec 32) : (IntOp.minsi a b).toInt = min a.toInt b.toInt := by
  unfold IntOp.minsi
  split <;> rename_i h <;> simp [BitVec.slt] at h <;> omega

/-- The least column number among the places where the row is least. -/
theorem fold_minsi (d : Fin 512 → EReal) :
    Finset.fold IntOp.minsi (2147483647#32)
      (fun x : Fin 512 => if d x = Finset.fold min ⊤ d Finset.univ then BitVec.ofNat 32 x.val else 1073741824#32)
      Finset.univ = BitVec.ofNat 32 (Spec.least d).val := by
  have small : ∀ x : Fin 512, (BitVec.ofNat 32 x.val).toInt = (x.val : ℤ) := fun x => by
    rw [BitVec.toInt_eq_toNat_cond, BitVec.toNat_ofNat]
    have := x.isLt
    rw [Nat.mod_eq_of_lt (by omega), if_pos (by omega)]
  refine BitVec.eq_of_toInt_eq ?_
  rw [← Finset.fold_hom (op' := min) (m := BitVec.toInt) toInt_minsi, small]
  refine le_antisymm ?_ ?_
  · refine ((Finset.le_fold_min _).1 le_rfl).2 (Spec.least d) (Finset.mem_univ _) |>.trans ?_
    show BitVec.toInt (if _ then _ else _) ≤ _
    rw [if_pos ((eq_fold_min d _).2 (Spec.least_le d)), small]
  · refine (Finset.le_fold_min _).2 ⟨?_, fun x _ => ?_⟩
    · have := (Spec.least d).isLt
      have e : (2147483647#32 : BitVec 32).toInt = 2147483647 := by decide
      rw [e]; omega
    · show _ ≤ BitVec.toInt (if _ then _ else _)
      have hl := (Spec.least d).isLt
      split
      · rename_i h
        rw [small]
        exact_mod_cast (Fin.le_def.1 (Spec.least_first d x ((eq_fold_min d x).1 h)))
      · have e : (1073741824#32 : BitVec 32).toInt = 1073741824 := by decide
        rw [e]; omega

/-- Where a row's first least entry stands. -/
theorem firstLeast_at (d : FVec Ideal S512x512 .f32) (r s : Fin 512) :
    firstLeast d (ix2 r s) = BitVec.ofBool (decide (s = Spec.least (fun s => d (ix2 r s)))) := by
  pointwise [firstLeast, colNo]
  rw [bits_top, fold_minsi fun s => d (ix2 r s), cmpi_small]

/-- A round on the distances at an index. -/
theorem distStep_at (d : FVec Ideal S512x512 .f32) (r s : Fin 512) :
    distStep d (ix2 r s) = Spec.strike (fun s => d (ix2 r s)) s := by
  rw [Spec.strike, ← named_taken]
  pointwise [distStep]
  rw [firstLeast_at, select_bool]

/-- A round on the matrix at an index. -/
theorem hitStep_at (d M : FVec Ideal S512x512 .f32) (r s : Fin 512) :
    hitStep d M (ix2 r s) = M (ix2 r s) + if s = Spec.least (fun s => d (ix2 r s)) then 1 else 0 := by
  pointwise [hitStep]
  rw [firstLeast_at, select_bool]

variable (mean : FVec Ideal S512x32 .f32)

/-- The distances after `n` rounds. -/
theorem distN_at (n : ℕ) (r : Fin 512) :
    (fun s => distN mean n (ix2 r s)) = Spec.strike^[n] (Spec.dist (fun n c => mean (ix2 n c)) r) := by
  induction n with
  | zero => funext s; exact dist0_at mean r s
  | succ n ih =>
    rw [Function.iterate_succ_apply', ← ih]
    funext s
    exact distStep_at (distN mean n) r s

/-- The matrix after `n` rounds. -/
theorem hitsN_at (n : ℕ) (r s : Fin 512) :
    hitsN mean n (ix2 r s) = (if r = s then 1 else 0)
      + ∑ j ∈ Finset.range n, if s = Spec.nbr (Spec.dist (fun n c => mean (ix2 n c)) r) j then (1 : EReal) else 0 := by
  induction n with
  | zero =>
    rw [Finset.range_zero, Finset.sum_empty, add_zero]
    pointwise [hitsN, colNo]
    rw [cmpi_small, select_bool]
  | succ n ih =>
    rw [Finset.sum_range_succ, ← add_assoc, ← ih, Spec.nbr, ← distN_at]
    exact hitStep_at (distN mean n) (hitsN mean n) r s

/-- The weight of an edge is not negative. -/
theorem ninth_nonneg : (0 : EReal) ≤ Spec.ninth := by
  rw [Spec.ninth, ← EReal.coe_mul, ← EReal.coe_zero, EReal.coe_le_coe_iff]; norm_num

/-- The matrix of the graph at an index. -/
theorem graph_at (r s : Fin 512) : graph mean (ix2 r s) = hitsN mean 8 (ix2 r s) * Spec.ninth := by
  rw [Spec.ninth, ← named_third]
  pointwise [graph]

/-- A sum against the mark of one place. -/
theorem sum_mark (n : Fin 512) (z : Fin 512 → EReal) (k : EReal) :
    ∑ s : Fin 512, (if s = n then (1 : EReal) else 0) * k * z s = k * z n := by
  rw [Finset.sum_eq_single n (fun s _ hs => by simp [hs]) (fun h => absurd (Finset.mem_univ _) h)]
  simp

/-- The matrix of the graph acts as the mixing of every node with its eight nearest nodes. -/
theorem graph_mixes (z : Fin 512 → Fin 256 → EReal) (r : Fin 512) (o : Fin 256) :
    ∑ s : Fin 512, graph mean (ix2 r s) * z s o
      = Spec.mixed (Spec.dist fun n c => mean (ix2 n c)) z r o := by
  have pos : ∀ p : Prop, [Decidable p] → (0 : EReal) ≤ if p then 1 else 0 := fun p _ => by split <;> simp
  have posN : ∀ m s, (0 : EReal) ≤ ∑ j ∈ Finset.range m,
      if s = Spec.nbr (Spec.dist (fun n c => mean (ix2 n c)) r) j then (1 : EReal) else 0 :=
    fun m s => Finset.sum_nonneg fun j _ => pos _
  have part : ∀ m, ∑ s : Fin 512, (∑ j ∈ Finset.range m,
      if s = Spec.nbr (Spec.dist (fun n c => mean (ix2 n c)) r) j then (1 : EReal) else 0) * Spec.ninth * z s o
      = ∑ j ∈ Finset.range m, Spec.ninth * z (Spec.nbr (Spec.dist (fun n c => mean (ix2 n c)) r) j) o := by
    intro m
    induction m with
    | zero => simp
    | succ m ih =>
      rw [Finset.sum_range_succ _ m, ← ih, ← sum_mark _ (fun s => z s o), ← Finset.sum_add_distrib]
      refine Finset.sum_congr rfl fun s _ => ?_
      rw [Finset.sum_range_succ, EReal.right_distrib_of_nonneg (posN m s) (pos _),
        EReal.right_distrib_of_nonneg (mul_nonneg (posN m s) ninth_nonneg) (mul_nonneg (pos _) ninth_nonneg)]
  rw [Spec.mixed, ← Finset.sum_range fun j => Spec.ninth * z (Spec.nbr (Spec.dist (fun n c => mean (ix2 n c)) r) j) o,
    ← part, ← sum_mark r (fun s => z s o), ← Finset.sum_add_distrib]
  refine Finset.sum_congr rfl fun s _ => ?_
  rw [graph_at, hitsN_at, EReal.right_distrib_of_nonneg (pos _) (posN 8 s),
    EReal.right_distrib_of_nonneg (mul_nonneg (pos _) ninth_nonneg) (mul_nonneg (posN 8 s) ninth_nonneg), add_comm]
  simp only [eq_comm (a := r)]

end Cert.KernelIdeal.Hand

end
-- ==== Proof.KOut.lean ====
/- The blocks the launch cuts, read at an index from the arguments, and the result it leaves. -/
module

public import proofs.«01_k».proof.Proof.KHost
public import proofs.«01_k».proof.Proof.KGraph
public import Idealize.ShloMosaic.Lib.Pipeline.ValueKit.Point

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable (m : (loc : Loc nD τ sig) → Buf (Elt Ideal) loc) (c : Dev nD)

/-- The arguments at their coordinates. -/
def argsOf : Spec.Args where
  x b i n := (m ((c : Thread nD τ).loc main_arg0) : FVec Ideal S128x16x2048 .f32) (ix3 b i n)
  k1 o i k := (m ((c : Thread nD τ).loc main_arg1) : FVec Ideal S16x16x5 .f32) (ix3 o i k)
  c1 o := (m ((c : Thread nD τ).loc main_arg2) : FVec Ideal S16 .f32) (ix1 o)
  k2 o i k := (m ((c : Thread nD τ).loc main_arg3) : FVec Ideal S32x16x5 .f32) (ix3 o i k)
  c2 o := (m ((c : Thread nD τ).loc main_arg4) : FVec Ideal S32 .f32) (ix1 o)
  W1 a o := (m ((c : Thread nD τ).loc main_arg5) : FVec Ideal S32x256 .f32) (ix2 a o)
  b1 o := (m ((c : Thread nD τ).loc main_arg6) : FVec Ideal S256 .f32) (ix1 o)
  W2 a o := (m ((c : Thread nD τ).loc main_arg7) : FVec Ideal S256x256 .f32) (ix2 a o)
  b2 o := (m ((c : Thread nD τ).loc main_arg8) : FVec Ideal S256 .f32) (ix1 o)
  fw a o := (m ((c : Thread nD τ).loc main_arg9) : FVec Ideal S256x64 .f32) (ix2 a o)
  fb o := (m ((c : Thread nD τ).loc main_arg10) : FVec Ideal S64 .f32) (ix1 o)

/-- The block of the signals a point reads. -/
theorem index_0 : ∀ t : Fin cfg0.N, (cfg0.win 0).index t = ![grp t.val, 0] := by decide +kernel

/-- The block of the result a point writes. -/
theorem index_11 : ∀ t : Fin cfg0.N, (cfg0.win 11).index t = ![grp t.val, 0] := by decide +kernel

/-- There are sixteen blocks of batches. -/
theorem grp_lt (t : Fin cfg0.N) : grp t.val < 16 := by
  have := lt_of_lt_of_eq t.isLt N_0
  simp only [grp]; split <;> omega

/-- The signals as one matrix: its row holds a batch and a channel. -/
theorem signals_at (x : FVec Ideal S128x16x2048 .f32) (r n : Fin 2048) :
    shapeCast S2048x2048 x shapeCasts_S128x16x2048_S2048x2048 (ix2 r n)
      = x (ix3 (⟨r.val / 16, by have := r.isLt; omega⟩ : Fin 128) (⟨r.val % 16, Nat.mod_lt _ (by norm_num)⟩ : Fin 16) n) := by
  pointwise

/-- The block of signals at a point. -/
theorem iblk_0 (t : Fin cfg0.N) (b : Fin 8) (i : Fin 16) (n : Fin 2048) :
    (iblk m c 0 t : FVec Ideal S128x2048 .f32) (ix2 (col16 b i) n) = (argsOf m c).x (batch (grp t.val) b) i n := by
  blk_simp [iblk]
  refine (congrArg (V m c main_v0) (Shape.idx_ext₂ (y := ix2 (⟨128 * grp t.val + (col16 b i).val, by
    have h := grp_lt t; have := b.isLt; have := i.isLt; simp only [col16]; omega⟩ : Fin 2048) n) ?_ ?_)).trans ?_
  · refine ((cfg0.win 0).rect_emb_val t (ix2 (col16 b i) n) 0).trans ?_
    rw [index_0]
    show grp t.val * 128 + (col16 b i).val = 128 * grp t.val + (col16 b i).val
    omega
  · refine ((cfg0.win 0).rect_emb_val t (ix2 (col16 b i) n) 1).trans ?_
    rw [index_0]
    show 0 * 2048 + n.val = n.val
    omega
  · rw [V_v0]
    refine (signals_at _ _ _).trans (congrArg (m ((c : Thread nD τ).loc main_arg0) : FVec Ideal S128x16x2048 .f32) ?_)
    have e1 : (⟨(128 * grp t.val + (col16 b i).val) / 16, by
        have h := grp_lt t; have := b.isLt; have := i.isLt; simp only [col16]; omega⟩ : Fin 128) = batch (grp t.val) b :=
      Fin.ext (by
        have h := grp_lt t; have := b.isLt; have := i.isLt
        show (128 * grp t.val + (16 * b.val + i.val)) / 16 = (8 * grp t.val + b.val) % 128
        omega)
    have e2 : (⟨(128 * grp t.val + (col16 b i).val) % 16, Nat.mod_lt _ (by norm_num)⟩ : Fin 16) = i :=
      Fin.ext (by
        have := i.isLt
        show (128 * grp t.val + (16 * b.val + i.val)) % 16 = i.val
        omega)
    exact congrArg₂ (fun a d => ix3 a d n) e1 e2

/-- The other windows hold the whole array at every point. -/
theorem index_whole (w : Fin 12) (h0 : w.val ≠ 0) (h11 : w.val ≠ 11) : ∀ t : Fin cfg0.N, (cfg0.win w).index t = fun _ => 0 := by
  revert w; decide +kernel

/-- A window that holds its whole array keeps every place. -/
theorem emb_whole (w : Fin 12) (h0 : w.val ≠ 0) (h11 : w.val ≠ 11) (t : Fin cfg0.N)
    (hk : (cfg0.win w).kind = .blocked) (j : ((cfg0.win w).xblock (cfg0.grid.coords t)).Idx) (a) :
    ((cfg0.win w).rect t).emb j a = (j a).val := by
  rw [(cfg0.win w).rect_emb_val t j a hk, index_whole w h0 h11]
  show 0 * _ + _ = _
  rw [zero_mul, zero_add]

/-- Window 1 holds its whole array. -/
theorem iblk_1 (t : Fin cfg0.N) : iblk m c 1 t = V m c main_v59 :=
  funext fun j => congrArg (V m c main_v59) (funext fun a => Fin.ext (emb_whole 1 (by decide) (by decide) t rfl j a))

/-- Window 2 holds its whole array. -/
theorem iblk_2 (t : Fin cfg0.N) : iblk m c 2 t = V m c main_v64 :=
  funext fun j => congrArg (V m c main_v64) (funext fun a => Fin.ext (emb_whole 2 (by decide) (by decide) t rfl j a))

/-- Window 3 holds its whole array. -/
theorem iblk_3 (t : Fin cfg0.N) : iblk m c 3 t = V m c main_v60 :=
  funext fun j => congrArg (V m c main_v60) (funext fun a => Fin.ext (emb_whole 3 (by decide) (by decide) t rfl j a))

/-- Window 4 holds its whole array. -/
theorem iblk_4 (t : Fin cfg0.N) : iblk m c 4 t = V m c main_v68 :=
  funext fun j => congrArg (V m c main_v68) (funext fun a => Fin.ext (emb_whole 4 (by decide) (by decide) t rfl j a))

/-- Window 5 holds its whole array. -/
theorem iblk_5 (t : Fin cfg0.N) : iblk m c 5 t = V m c main_v69 :=
  funext fun j => congrArg (V m c main_v69) (funext fun a => Fin.ext (emb_whole 5 (by decide) (by decide) t rfl j a))

/-- Window 6 holds its whole array. -/
theorem iblk_6 (t : Fin cfg0.N) : iblk m c 6 t = V m c main_v70 :=
  funext fun j => congrArg (V m c main_v70) (funext fun a => Fin.ext (emb_whole 6 (by decide) (by decide) t rfl j a))

/-- Window 7 holds its whole array. -/
theorem iblk_7 (t : Fin cfg0.N) : iblk m c 7 t = V m c main_v71 :=
  funext fun j => congrArg (V m c main_v71) (funext fun a => Fin.ext (emb_whole 7 (by decide) (by decide) t rfl j a))

/-- Window 8 holds its whole array. -/
theorem iblk_8 (t : Fin cfg0.N) : iblk m c 8 t = V m c main_v72 :=
  funext fun j => congrArg (V m c main_v72) (funext fun a => Fin.ext (emb_whole 8 (by decide) (by decide) t rfl j a))

/-- Window 9 holds its whole array. -/
theorem iblk_9 (t : Fin cfg0.N) : iblk m c 9 t = V m c main_v73 :=
  funext fun j => congrArg (V m c main_v73) (funext fun a => Fin.ext (emb_whole 9 (by decide) (by decide) t rfl j a))

/-- Window 10 holds its whole array. -/
theorem iblk_10 (t : Fin cfg0.N) : iblk m c 10 t = V m c main_v74 :=
  funext fun j => congrArg (V m c main_v74) (funext fun a => Fin.ext (emb_whole 10 (by decide) (by decide) t rfl j a))

/-- The later layers' arrays at every point. -/
theorem netHolds (t : Fin cfg0.N) : NetHolds (argsOf m c) (iblk m c 5 t) (iblk m c 6 t) (iblk m c 7 t) (iblk m c 8 t)
    (iblk m c 9 t) (iblk m c 10 t) := by
  rw [iblk_5, iblk_6, iblk_7, iblk_8, iblk_9, iblk_10, V_v69, V_v70, V_v71, V_v72, V_v73, V_v74]
  refine ⟨?_, ?_, ?_, ?_, ?_, ?_⟩
  · intro a o; rfl
  · intro o; pointwise; rfl
  · intro a o; rfl
  · intro o; pointwise; rfl
  · intro a o; rfl
  · intro o; pointwise; rfl

/-- The first bias as the launch gets it. -/
theorem bias1 (b : Fin 8) (o : Fin 16) : (V m c main_v64 : FVec Ideal S1x128 .f32) (ix2 0 (col16 b o)) = (argsOf m c).c1 o := by
  rw [V_v64]
  pointwise
  exact congrArg (fun j => (m ((c : Thread nD τ).loc main_arg2) : FVec Ideal S16 .f32) (ix1 j)) (Fin.ext (by
    have := o.isLt
    show (16 * b.val + o.val) % 16 = o.val
    omega))

/-- The second bias as the launch gets it. -/
theorem bias2 (b : Fin 8) (o : Fin 32) : (V m c main_v68 : FVec Ideal S1x256 .f32) (ix2 0 (col32 b o)) = (argsOf m c).c2 o := by
  rw [V_v68]
  pointwise
  exact congrArg (fun j => (m ((c : Thread nD τ).loc main_arg4) : FVec Ideal S32 .f32) (ix1 j)) (Fin.ext (by
    have := o.isLt
    show (32 * b.val + o.val) % 32 = o.val
    omega))

/-- The features at every point. -/
theorem ft_at (t : Fin cfg0.N) (q : Fin 512) (b : Fin 8) (o : Fin 32) :
    ft m c t (ix2 q (col32 b o)) = Spec.feat (argsOf m c) (batch (grp t.val) b) q o := by
  refine (feats_at (X := fun b => (argsOf m c).x (batch (grp t.val) b)) (v1 := (argsOf m c).k1) (u1 := (argsOf m c).c1)
    (v2 := (argsOf m c).k2) (u2 := (argsOf m c).c2) (iblk_0 m c t) ?_ ?_ ?_ ?_ q b o).trans rfl
  · rw [iblk_1, V_v59]; exact weights1_diag _
  · rw [iblk_2]; exact bias1 m c
  · rw [iblk_3, V_v60]; exact weights2_diag _
  · rw [iblk_4]; exact bias2 m c

end Cert.KernelIdeal.Hand

end
-- ==== Proof.KResult.lean ====
/- The result of the launch, read at an index. -/
module

public import proofs.«01_k».proof.Proof.KOut
public import Idealize.ShloMosaic.Lib.Pipeline.ValueKit.Point

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable (m : (loc : Loc nD τ sig) → Buf (Elt Ideal) loc) (c : Dev nD)

variable (ρ : Dev nD → PrngReg)

/-- A block's row is the result's row. -/
theorem row_out (A : Spec.Args) (B : Fin 128) (g : (Fin 512 → Fin 256 → EReal) → Fin 512 → Fin 256 → EReal)
    (hg : g = Spec.spread A B) (o : Fin 64) :
    (∑ k : Fin 256, rowOf g (Spec.feat A B) A k * A.fw k o) + A.fb o = Spec.out A B o := by
  subst hg; rfl

/-- What is left in the result's window at a writing point. -/
theorem outAt_out (H : (argsOf m c).Finite) (t : Fin cfg0.N) (ht : t.val ≠ 15) (X : Vec Ideal S8x64 .f32)
    (hX : OutAt m c t X) (b : Fin 8) (o : Fin 64) :
    X (ix2 b o) = Spec.out (argsOf m c) (batch (grp t.val) b) o := by
  have hb := b.isLt
  have htN := lt_of_lt_of_eq t.isLt N_0
  by_cases h : t.val < 15
  · rw [hX.1 h, plainBlock_at (netHolds m c t) (fun n b k => ft_at m c t n b k) b o]
    refine row_out _ _ _ ?_ o
    funext z
    rw [Spec.spread, if_neg]
    · rfl
    · intro e
      have e' : (8 * grp t.val + b.val) % 128 = 0 := congrArg Fin.val e
      rw [grp, if_pos h] at e'
      omega
  · have h16 : t.val = 16 := by omega
    have e15 : (pt 15).val = 15 := rfl
    have hg : grp (pt 15).val = 0 := rfl
    have hg' : grp t.val = 0 := by rw [h16]; rfl
    rw [hX.2 h16, graphBlock_at (netHolds m c t) (fun n b k => ft_at m c (pt 15) n b k) (graph_mixes _) b o, hg']
    refine row_out _ (batch 0 b) _ ?_ o
    funext z
    have hm : (fun n k => (acc m c 15).1 (ix2 n k)) = Spec.mean (argsOf m c) := by
      funext n k
      refine mean_at m H c (fun t q b o ht => ?_) n k
      have := ft_at m c (pt t) q b o
      rwa [show (pt t).val = t from Nat.mod_eq_of_lt (by omega)] at this
    by_cases hb0 : b = 0
    · subst hb0
      rw [if_pos rfl, Spec.spread, if_pos (show batch 0 0 = 0 from Fin.ext rfl), hm]
    · rw [if_neg hb0, Spec.spread, if_neg]
      · rfl
      · intro e
        have e' : (8 * 0 + b.val) % 128 = 0 := congrArg Fin.val e
        exact hb0 (Fin.ext (show b.val = 0 by omega))

/-- The sixteenth point does not write the result's block back. -/
theorem flush_11 : ∀ t : Fin cfg0.N, (cfg0.win 11).flush t = true → t.val ≠ 15 := by decide +kernel

/-- The result's array. -/
def result : Vec Ideal S128x64 .f32 := fun j => Spec.out (argsOf m c) (j 0) (j 1)

/-- The array the launch leaves. -/
theorem arr_out (H : (argsOf m c).Finite)
    (after : (w' : Fin cfg0.W) → Fin cfg0.N → (cfg0.win w').block.Idx → Elt Ideal (cfg0.win w').elt)
    (hL : ∀ (w : Fin cfg0.W) (u : Fin cfg0.N), (cfg0.win w).flush u = true →
      ((dats m 0 c).toRRel held0 (Rl m c)).Leaves w u (after w u)) :
    (((dats m 0 c).toRRel held0 (Rl m c)).withAfter after).arrAt 11 cfg0.N = result m c := by
  refine Pipeline.Dat.arrAt_eq_of_covers _ 11 _ (by decide +kernel) fun t hf y => ?_
  have hX : OutAt m c t (after 11 t) := (dats m 0 c).toRRel_leaves (w := 11) rfl (hL 11 t hf)
  have hy := outAt_out m c H t (flush_11 t hf) _ hX (y 0) (y 1)
  blk_simp
  rw [Pipeline.RDat.withAfter_after]
  have e0 : ((win0_11.blk t).view.emb y 0).val = 8 * grp t.val + (y 0).val := by
    refine ((cfg0.win 11).rect_emb_val t y 0).trans ?_
    rw [index_11]
    show grp t.val * 8 + (y 0).val = 8 * grp t.val + (y 0).val
    omega
  have e1 : ((win0_11.blk t).view.emb y 1).val = (y 1).val := by
    refine ((cfg0.win 11).rect_emb_val t y 1).trans ?_
    rw [index_11]
    show 0 * 64 + (y 1).val = (y 1).val
    omega
  have ey : after 11 t y = after 11 t (ix2 (y 0) (y 1)) := congrArg _ (Shape.idx_ext₂ rfl rfl)
  rw [ey, hy]
  refine congrArg₂ (Spec.out (argsOf m c)) (Fin.ext ?_) (Fin.ext e1.symm)
  refine Eq.trans ?_ e0.symm
  have h1 := grp_lt t
  have h2 : (y 0).val < 8 := (y 0).isLt
  show (8 * grp t.val + (y 0).val) % 128 = _
  omega

/-- The kernel's run: the result's array holds the network's result and the arguments are unchanged. -/
theorem kernel_value (H : ∀ c, (argsOf m c).Finite) :
    θ_run defs (onTc (τ := τ) (main (F := Ideal))) ⟨m, fun _ => 0, ρ⟩ (fun r => ∀ c : Dev nD,
      r.2.mem ((c.tc : Thread nD τ).loc main_v75) = result m c) := by
  refine (θ_run defs _ _).mono (fun r h c => ?_) (run_main m ρ)
  obtain ⟨after, hL, hA⟩ := Pipeline.RDat.FramePost.exists_exact h c
  exact (hA 11).trans (arr_out m c (H c) after hL)

end Cert.KernelIdeal.Hand

end
-- ==== Proof.RConv.lean ====
/- The reference's two convolutions with pooling, read at an index. -/
module

public import proofs.«01_k».proof.Proof.Gen.ReferenceIdeal.Read
public import proofs.«01_k».proof.Proof.Spec
public import Idealize.ShloMosaic.Lib.Pointwise
public import Idealize.ShloMosaic.PureOps.Ideal.Laws

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Read

/-- The eleven arrays hold the arguments. -/
structure Holds (A : Spec.Args) (x0 : FVec Ideal S128x16x2048 .f32) (x1 : FVec Ideal S16x16x5 .f32)
    (x2 : FVec Ideal S16 .f32) (x3 : FVec Ideal S32x16x5 .f32) (x4 : FVec Ideal S32 .f32) (x5 : FVec Ideal S32x256 .f32)
    (x6 : FVec Ideal S256 .f32) (x7 : FVec Ideal S256x256 .f32) (x8 : FVec Ideal S256 .f32)
    (x9 : FVec Ideal S256x64 .f32) (x10 : FVec Ideal S64 .f32) : Prop where
  /-- the signals -/
  hx : ∀ b i n, x0 (ix3 b i n) = A.x b i n
  /-- the first convolution's weights -/
  hk1 : ∀ o i k, x1 (ix3 o i k) = A.k1 o i k
  /-- the first convolution's bias -/
  hc1 : ∀ o, x2 (ix1 o) = A.c1 o
  /-- the second convolution's weights -/
  hk2 : ∀ o i k, x3 (ix3 o i k) = A.k2 o i k
  /-- the second convolution's bias -/
  hc2 : ∀ o, x4 (ix1 o) = A.c2 o
  /-- the first graph layer's matrix -/
  hW1 : ∀ a o, x5 (ix2 a o) = A.W1 a o
  /-- the first graph layer's bias -/
  hb1 : ∀ o, x6 (ix1 o) = A.b1 o
  /-- the second graph layer's matrix -/
  hW2 : ∀ a o, x7 (ix2 a o) = A.W2 a o
  /-- the second graph layer's bias -/
  hb2 : ∀ o, x8 (ix1 o) = A.b2 o
  /-- the last matrix -/
  hfw : ∀ a o, x9 (ix2 a o) = A.fw a o
  /-- the last bias -/
  hfb : ∀ o, x10 (ix1 o) = A.fb o

variable {A : Spec.Args} {x0 : FVec Ideal S128x16x2048 .f32} {x1 : FVec Ideal S16x16x5 .f32}
    {x2 : FVec Ideal S16 .f32} {x3 : FVec Ideal S32x16x5 .f32} {x4 : FVec Ideal S32 .f32} {x5 : FVec Ideal S32x256 .f32}
    {x6 : FVec Ideal S256 .f32} {x7 : FVec Ideal S256x256 .f32} {x8 : FVec Ideal S256 .f32}
    {x9 : FVec Ideal S256x64 .f32} {x10 : FVec Ideal S64 .f32}
    (H : Holds A x0 x1 x2 x3 x4 x5 x6 x7 x8 x9 x10)

/-- The least number as the word that spells it. -/
theorem bits_bot : Ideal.ofBits .f32 4286578688#32 = (⊥ : EReal) := by
  simp [Ideal.ofBits, Ideal.ieee]

/-- A maximum over two entries. -/
theorem fold_two (a : EReal) (f : Fin 2 → EReal) : Finset.fold max a f Finset.univ = max (f 0) (max (f 1) a) := rfl

/-- Cutting at zero after a maximum is a maximum of cuts. -/
theorem pool_two (a b u : EReal) : max (max (a + u) 0) (max (max (b + u) 0) ⊥) = max (max a b + u) 0 := by
  rw [max_bot_right, ← max_max_max_comm, max_self, max_add_add_right]

include H

/-- The signals with two zeros on either side. -/
theorem pad1_at (b : Fin 128) (i : Fin 16) (n : Fin 2052) :
    val_main_v0 (F := Ideal) x0 (ix3 b i n) = Spec.padded (Spec.sig (A.x b i)) n.val := by
  have h0 : val_main_call0_v0 (F := Ideal) (Shape.Idx.first h_S_) = 0 := by
    show (((0#32 : BitVec 32).toInt : ℝ) : EReal) = 0
    simp
  pointwise [val_main_v0]
  rw [Spec.padded, h0]
  by_cases h2 : 2 ≤ n.val
  · rw [if_pos h2, Spec.sig]
    by_cases h : n.val - 2 < 2048
    · rw [dif_pos ⟨h2, h⟩, dif_pos h, H.hx]
    · rw [dif_neg fun e => h e.2, dif_neg h]
  · rw [if_neg h2, dif_neg fun e => h2 e.1]

/-- The first convolution's tap 0. -/
theorem tap1_0 (o : Fin 16) (b : Fin 128) (n : Fin 2048) :
    val_main_v4 (F := Ideal) x0 x1 (ix3 o b n) = ∑ i, Spec.padded (Spec.sig (A.x b i)) (n.val + 0) * A.k1 o i 0 := by
  pointwise [val_main_v4, val_main_v3, val_main_v2, val_main_v1]
  refine Finset.sum_congr rfl fun i _ => ?_
  rw [pad1_at H, mul_comm, H.hk1]

/-- The first convolution's tap 1. -/
theorem tap1_1 (o : Fin 16) (b : Fin 128) (n : Fin 2048) :
    val_main_v11 (F := Ideal) x0 x1 (ix3 o b n) = ∑ i, Spec.padded (Spec.sig (A.x b i)) (n.val + 1) * A.k1 o i 1 := by
  pointwise [val_main_v11, val_main_v10, val_main_v9, val_main_v8]
  refine Finset.sum_congr rfl fun i _ => ?_
  rw [pad1_at H, mul_comm, H.hk1]
  exact congrArg (fun t => Spec.padded (Spec.sig (A.x b i)) t * A.k1 o i 1) (Nat.add_comm 1 n.val)

/-- The first convolution's tap 2. -/
theorem tap1_2 (o : Fin 16) (b : Fin 128) (n : Fin 2048) :
    val_main_v17 (F := Ideal) x0 x1 (ix3 o b n) = ∑ i, Spec.padded (Spec.sig (A.x b i)) (n.val + 2) * A.k1 o i 2 := by
  pointwise [val_main_v17, val_main_v16, val_main_v15, val_main_v14]
  refine Finset.sum_congr rfl fun i _ => ?_
  rw [pad1_at H, mul_comm, H.hk1]
  exact congrArg (fun t => Spec.padded (Spec.sig (A.x b i)) t * A.k1 o i 2) (Nat.add_comm 2 n.val)

/-- The first convolution's tap 3. -/
theorem tap1_3 (o : Fin 16) (b : Fin 128) (n : Fin 2048) :
    val_main_v23 (F := Ideal) x0 x1 (ix3 o b n) = ∑ i, Spec.padded (Spec.sig (A.x b i)) (n.val + 3) * A.k1 o i 3 := by
  pointwise [val_main_v23, val_main_v22, val_main_v21, val_main_v20]
  refine Finset.sum_congr rfl fun i _ => ?_
  rw [pad1_at H, mul_comm, H.hk1]
  exact congrArg (fun t => Spec.padded (Spec.sig (A.x b i)) t * A.k1 o i 3) (Nat.add_comm 3 n.val)

/-- The first convolution's tap 4. -/
theorem tap1_4 (o : Fin 16) (b : Fin 128) (n : Fin 2048) :
    val_main_v29 (F := Ideal) x0 x1 (ix3 o b n) = ∑ i, Spec.padded (Spec.sig (A.x b i)) (n.val + 4) * A.k1 o i 4 := by
  pointwise [val_main_v29, val_main_v28, val_main_v27, val_main_v26]
  refine Finset.sum_congr rfl fun i _ => ?_
  rw [pad1_at H, mul_comm, H.hk1]
  exact congrArg (fun t => Spec.padded (Spec.sig (A.x b i)) t * A.k1 o i 4) (Nat.add_comm 4 n.val)

/-- The first convolution. -/
theorem conv1_at (b : Fin 128) (o : Fin 16) (n : Fin 2048) :
    val_main_v31 (F := Ideal) x0 x1 (ix3 b o n) = Spec.convAt (fun i => Spec.sig (A.x b i)) (A.k1 o) n.val := by
  pointwise [val_main_v31, val_main_v30, val_main_v25, val_main_v24, val_main_v19, val_main_v18, val_main_v13, val_main_v12,
    val_main_v7, val_main_v6, val_main_cst, val_main_v5]
  rw [Spec.convAt, Fin.sum_univ_five, tap1_0 H, tap1_1 H, tap1_2 H, tap1_3 H, tap1_4 H]
  rfl

/-- The first layer. -/
theorem lay1_at (b : Fin 128) (o : Fin 16) (n : Fin 1024) :
    val_main_v37 (F := Ideal) x0 x1 x2 (ix3 b o n) = Spec.lay1 A b o n.val := by
  pointwise [val_main_v37, val_main_v36, val_main_v35, val_main_v34, val_main_v33, val_main_v32, val_main_call1_v0,
    val_main_call1_cst, val_main_cst_0]
  simp only [conv1_at H, H.hc1]
  rw [fold_two, bits_bot, pool_two, Spec.lay1, Spec.pool, if_pos n.isLt, Nat.mul_comm]
  rfl

/-- The first layer with two zeros on either side. -/
theorem pad2_at (b : Fin 128) (i : Fin 16) (n : Fin 1028) :
    val_main_v38 (F := Ideal) x0 x1 x2 (ix3 b i n) = Spec.padded (Spec.lay1 A b i) n.val := by
  have h0 : val_main_call2_v0 (F := Ideal) (Shape.Idx.first h_S_) = 0 := by
    show (((0#32 : BitVec 32).toInt : ℝ) : EReal) = 0
    simp
  pointwise [val_main_v38]
  rw [Spec.padded, h0]
  by_cases h2 : 2 ≤ n.val
  · rw [if_pos h2]
    by_cases h : n.val - 2 < 1024
    · rw [dif_pos ⟨h2, h⟩, lay1_at H]
    · rw [dif_neg fun e => h e.2, Spec.lay1, Spec.pool, if_neg h]
  · rw [if_neg h2, dif_neg fun e => h2 e.1]

/-- The second convolution's tap 0. -/
theorem tap2_0 (o : Fin 32) (b : Fin 128) (n : Fin 1024) :
    val_main_v42 (F := Ideal) x0 x1 x2 x3 (ix3 o b n) = ∑ i, Spec.padded (Spec.lay1 A b i) (n.val + 0) * A.k2 o i 0 := by
  pointwise [val_main_v42, val_main_v41, val_main_v40, val_main_v39]
  refine Finset.sum_congr rfl fun i _ => ?_
  rw [pad2_at H, mul_comm, H.hk2]

/-- The second convolution's tap 1. -/
theorem tap2_1 (o : Fin 32) (b : Fin 128) (n : Fin 1024) :
    val_main_v49 (F := Ideal) x0 x1 x2 x3 (ix3 o b n) = ∑ i, Spec.padded (Spec.lay1 A b i) (n.val + 1) * A.k2 o i 1 := by
  pointwise [val_main_v49, val_main_v48, val_main_v47, val_main_v46]
  refine Finset.sum_congr rfl fun i _ => ?_
  rw [pad2_at H, mul_comm, H.hk2]
  exact congrArg (fun t => Spec.padded (Spec.lay1 A b i) t * A.k2 o i 1) (Nat.add_comm 1 n.val)

/-- The second convolution's tap 2. -/
theorem tap2_2 (o : Fin 32) (b : Fin 128) (n : Fin 1024) :
    val_main_v55 (F := Ideal) x0 x1 x2 x3 (ix3 o b n) = ∑ i, Spec.padded (Spec.lay1 A b i) (n.val + 2) * A.k2 o i 2 := by
  pointwise [val_main_v55, val_main_v54, val_main_v53, val_main_v52]
  refine Finset.sum_congr rfl fun i _ => ?_
  rw [pad2_at H, mul_comm, H.hk2]
  exact congrArg (fun t => Spec.padded (Spec.lay1 A b i) t * A.k2 o i 2) (Nat.add_comm 2 n.val)

/-- The second convolution's tap 3. -/
theorem tap2_3 (o : Fin 32) (b : Fin 128) (n : Fin 1024) :
    val_main_v61 (F := Ideal) x0 x1 x2 x3 (ix3 o b n) = ∑ i, Spec.padded (Spec.lay1 A b i) (n.val + 3) * A.k2 o i 3 := by
  pointwise [val_main_v61, val_main_v60, val_main_v59, val_main_v58]
  refine Finset.sum_congr rfl fun i _ => ?_
  rw [pad2_at H, mul_comm, H.hk2]
  exact congrArg (fun t => Spec.padded (Spec.lay1 A b i) t * A.k2 o i 3) (Nat.add_comm 3 n.val)

/-- The second convolution's tap 4. -/
theorem tap2_4 (o : Fin 32) (b : Fin 128) (n : Fin 1024) :
    val_main_v67 (F := Ideal) x0 x1 x2 x3 (ix3 o b n) = ∑ i, Spec.padded (Spec.lay1 A b i) (n.val + 4) * A.k2 o i 4 := by
  pointwise [val_main_v67, val_main_v66, val_main_v65, val_main_v64]
  refine Finset.sum_congr rfl fun i _ => ?_
  rw [pad2_at H, mul_comm, H.hk2]
  exact congrArg (fun t => Spec.padded (Spec.lay1 A b i) t * A.k2 o i 4) (Nat.add_comm 4 n.val)

/-- The second convolution. -/
theorem conv2_at (b : Fin 128) (o : Fin 32) (n : Fin 1024) :
    val_main_v69 (F := Ideal) x0 x1 x2 x3 (ix3 b o n) = Spec.convAt (Spec.lay1 A b) (A.k2 o) n.val := by
  pointwise [val_main_v69, val_main_v68, val_main_v63, val_main_v62, val_main_v57, val_main_v56, val_main_v51, val_main_v50,
    val_main_v45, val_main_v44, val_main_cst_2, val_main_v43]
  rw [Spec.convAt, Fin.sum_univ_five, tap2_0 H, tap2_1 H, tap2_2 H, tap2_3 H, tap2_4 H]
  rfl

/-- The second layer. -/
theorem lay2_at (b : Fin 128) (o : Fin 32) (n : Fin 512) :
    val_main_v75 (F := Ideal) x0 x1 x2 x3 x4 (ix3 b o n) = Spec.lay2 A b o n.val := by
  pointwise [val_main_v75, val_main_v74, val_main_v73, val_main_v72, val_main_v71, val_main_v70, val_main_call3_v0,
    val_main_call3_cst, val_main_cst_3]
  simp only [conv2_at H, H.hc2]
  rw [fold_two, bits_bot, pool_two, Spec.lay2, Spec.pool, if_pos n.isLt, Nat.mul_comm]
  rfl

/-- A node of the list of all nodes: the batch times 512 plus the place. -/
def node (b : Fin 128) (n : Fin 512) : Fin 65536 :=
  ⟨512 * b.val + n.val, by have := b.isLt; have := n.isLt; omega⟩

/-- The features, batch by batch. -/
theorem feat3_at (b : Fin 128) (n : Fin 512) (k : Fin 32) :
    val_main_v76 (F := Ideal) x0 x1 x2 x3 x4 (ix3 b n k) = Spec.feat A b n k := by
  pointwise [val_main_v76]
  exact lay2_at H b k n

/-- The features, all nodes in one list. -/
theorem feat_at (b : Fin 128) (n : Fin 512) (k : Fin 32) :
    val_main_v77 (F := Ideal) x0 x1 x2 x3 x4 (ix2 (node b n) k) = Spec.feat A b n k := by
  pointwise [val_main_v77]
  have e1 : (⟨(node b n).val / 512, by have := (node b n).isLt; omega⟩ : Fin 128) = b :=
    Fin.ext (by show (512 * b.val + n.val) / 512 = b.val; have := n.isLt; omega)
  have e2 : (⟨(node b n).val % 512, Nat.mod_lt _ (by norm_num)⟩ : Fin 512) = n :=
    Fin.ext (by show (512 * b.val + n.val) % 512 = n.val; have := n.isLt; omega)
  exact (congrArg₂ (fun a d => val_main_v76 (F := Ideal) x0 x1 x2 x3 x4 (ix3 a d k)) e1 e2).trans (feat3_at H b n k)

end Cert.ReferenceIdeal.Hand

end
-- ==== Proof.RDist.lean ====
/- The reference's distances between nodes, read at an index. -/
module

public import proofs.«01_k».proof.Proof.RConv
public import Idealize.ShloMosaic.Lib.Pointwise
public import Idealize.ShloMosaic.PureOps.Ideal.Laws

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Read

variable {A : Spec.Args} {x0 : FVec Ideal S128x16x2048 .f32} {x1 : FVec Ideal S16x16x5 .f32}
    {x2 : FVec Ideal S16 .f32} {x3 : FVec Ideal S32x16x5 .f32} {x4 : FVec Ideal S32 .f32} {x5 : FVec Ideal S32x256 .f32}
    {x6 : FVec Ideal S256 .f32} {x7 : FVec Ideal S256x256 .f32} {x8 : FVec Ideal S256 .f32}
    {x9 : FVec Ideal S256x64 .f32} {x10 : FVec Ideal S64 .f32}
    (H : Holds A x0 x1 x2 x3 x4 x5 x6 x7 x8 x9 x10)

/-- The word of 128. -/
theorem bits_128 : Ideal.ofBits .f32 1124073472#32 = ((128 : ℝ) : EReal) := by
  simp [Ideal.ofBits, Ideal.ieee, -EReal.coe_mul]; norm_num

/-- The word of two. -/
theorem bits_2 : Ideal.ofBits .f32 0x40000000#32 = ((2 : ℝ) : EReal) := by
  simp [Ideal.ofBits, Ideal.ieee, -EReal.coe_mul]; norm_num

/-- The word of a thousand million. -/
theorem bits_1e9 : Ideal.ofBits .f32 0x4E6E6B28#32 = ((1000000000 : ℝ) : EReal) := by
  simp [Ideal.ofBits, Ideal.ieee, -EReal.coe_mul]; norm_num

/-- Comparing two node numbers as words compares the numbers. -/
theorem cmp_words (r s : Fin 512) :
    IntOp.cmpi CmpIPredicate.eq (BitVec.ofNat 32 r.val) (BitVec.ofNat 32 s.val) = if r = s then 1#1 else 0#1 := by
  by_cases h : r = s
  · subst h; simp [IntOp.cmpi]
  · have h' : ¬ (BitVec.ofNat 32 r.val = BitVec.ofNat 32 s.val) := fun e => h (Fin.ext (by
      have := congrArg BitVec.toNat e
      simp only [BitVec.toNat_ofNat] at this
      omega))
    rw [if_neg h, IntOp.cmpi, beq_eq_false_iff_ne.2 h']; rfl

/-- The number of a decision. -/
theorem number_bit (p : Prop) [Decidable p] :
    FloatOps.uitofp (F := Ideal) .f32 (if p then 1#1 else 0#1) = if p then (1 : EReal) else 0 := by
  split
  · show (((1#1 : BitVec 1).toNat : ℝ) : EReal) = 1
    simp
  · show (((0#1 : BitVec 1).toNat : ℝ) : EReal) = 0
    simp

include H

/-- The mean of the features over the batches. -/
theorem mean_at (n : Fin 512) (k : Fin 32) :
    val_main_v81 (F := Ideal) x0 x1 x2 x3 x4 (ix2 n k) = Spec.mean A n k := by
  pointwise [val_main_v81, val_main_v80, val_main_v79, val_main_v78, val_main_v77, val_main_cst_4, val_main_cst_5]
  simp only [feat3_at H]
  rw [Spec.mean, bits_128, Ideal.div_coe (by norm_num)]
  try rfl

/-- The squared distances. -/
theorem dist_at (r s : Fin 512) :
    val_main_v102 (F := Ideal) x0 x1 x2 x3 x4 (ix2 r s) = Spec.dist (Spec.mean A) r s := by
  pointwise [val_main_v102, val_main_v101, val_main_v100, val_main_v99, val_main_v98, val_main_v97, val_main_v96,
    val_main_v95, val_main_v94, val_main_v93, val_main_v92, val_main_v91, val_main_v90, val_main_v89, val_main_v88,
    val_main_v87, val_main_v86, val_main_v85, val_main_v84, val_main_v83, val_main_v82, val_main_cst_6, val_main_cst_7,
    val_main_c_8, val_main_cst_9]
  simp only [mean_at H]
  rw [show IntOp.addi (BitVec.ofNat 32 r.val) 0#32 = BitVec.ofNat 32 r.val from BitVec.add_zero _, cmp_words, number_bit,
    bits_2, bits_1e9, Spec.dist]
  congr 1
  split
  · rw [one_mul]
  · rw [zero_mul]

/-- What the largest entries are taken of: the distances turned around. -/
theorem neg_at (r s : Fin 512) :
    val_main_v103 (F := Ideal) x0 x1 x2 x3 x4 (ix2 r s) = - Spec.dist (Spec.mean A) r s := by
  pointwise [val_main_v103]
  rw [dist_at H]

end Cert.ReferenceIdeal.Hand

end
-- ==== Proof.RTop.lean ====
/-
  The first places of the reference's sorted row: the near ones of a row of distances, one after the other.
-/
module

public import proofs.«01_k».proof.Proof.Finite
public import Idealize.ShloMosaic.Lib.SortPrefix

@[expose] public section

noncomputable section

namespace Cert.Spec

open Idealize.ShloMosaic

/-- "Smaller, or as large and further to the front": the order in which the near ones are taken. -/
def ahead (d : Fin 512 → EReal) (p q : Fin 512) : Bool :=
  decide (d p < d q) || (decide (d p = d q) && decide (p < q))

/-- That order is strict and total. -/
theorem ahead_total (d : Fin 512 → EReal) : StrictTotalBefore (ahead d) where
  irrefl p := by simp [ahead]
  trans a b c hab hbc := by
    simp only [ahead, Bool.or_eq_true, Bool.and_eq_true, decide_eq_true_eq] at hab hbc ⊢
    rcases hab with hab | ⟨eab, lab⟩ <;> rcases hbc with hbc | ⟨ebc, lbc⟩
    · exact Or.inl (lt_trans hab hbc)
    · exact Or.inl (ebc ▸ hab)
    · exact Or.inl (eab ▸ hbc)
    · exact Or.inr ⟨eab.trans ebc, lt_trans lab lbc⟩
  total a b hne := by
    simp only [ahead, Bool.or_eq_true, Bool.and_eq_true, decide_eq_true_eq]
    rcases lt_trichotomy (d a) (d b) with h | h | h
    · exact Or.inl (Or.inl h)
    · rcases lt_or_gt_of_ne hne with hlt | hgt
      · exact Or.inl (Or.inr ⟨h, hlt⟩)
      · exact Or.inr (Or.inr ⟨h.symm, hgt⟩)
    · exact Or.inr (Or.inl h)

/-- A stable sort by the distances alone keeps equal ones in the order of their places. -/
theorem sort_stable (d : Fin 512 → EReal) (l : List (Fin 512)) (hl : l.Pairwise (· < ·)) :
    stableSort (fun p q => decide (d p < d q)) l = stableSort (ahead d) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp only [ahead, not_lt.2 hab.le, decide_false, Bool.and_false, Bool.or_false]

/-- After `j` rounds the entries taken so far are struck out and the others stand as they were. -/
theorem struck (d : Fin 512 → EReal) (j : ℕ) (s : Fin 512) :
    (strike^[j] d) s = if ∃ i, i < j ∧ nbr d i = s then ⊤ else d s := by
  induction j with
  | zero => simp
  | succ j ih =>
    rw [Function.iterate_succ_apply']
    show (if s = least (strike^[j] d) then ⊤ else (strike^[j] d) s) = _
    by_cases h : s = least (strike^[j] d)
    · rw [if_pos h, if_pos ⟨j, Nat.lt_succ_self j, h.symm⟩]
    · rw [if_neg h, ih]
      refine if_congr ⟨fun ⟨i, hi, e⟩ => ⟨i, Nat.lt_succ_of_lt hi, e⟩, fun ⟨i, hi, e⟩ => ⟨i, ?_, e⟩⟩ rfl rfl
      rcases Nat.lt_succ_iff_lt_or_eq.1 hi with hi | rfl
      · exact hi
      · exact absurd e.symm h

/-- Sorts with one order of places have one source for each place. -/
theorem sorted_eq {n : ℕ} (B B' : Fin n → Fin n → Bool)
    (h : stableSort B (List.finRange n) = stableSort B' (List.finRange n)) (k : Fin n) : sortedFrom B k = sortedFrom B' k :=
  List.get_of_eq h _

variable {d : Fin 512 → EReal} (hd : ∀ s, d s ≠ ⊤)
include hd

/-- What a round takes has not been taken before. -/
theorem nbr_fresh (j : ℕ) (hj : j < 512) (i : ℕ) (hi : i < j) : nbr d i ≠ nbr d j := by
  obtain ⟨s, hs⟩ : ∃ s : Fin 512, s ∉ (Finset.range j).image (nbr d) := by
    by_contra hc
    have hall : (Finset.univ : Finset (Fin 512)) ⊆ (Finset.range j).image (nbr d) := fun s _ => by
      by_contra hs; exact hc ⟨s, hs⟩
    have h1 := Finset.card_le_card hall
    have h2 : ((Finset.range j).image (nbr d)).card ≤ (Finset.range j).card := Finset.card_image_le
    simp only [Finset.card_univ, Fintype.card_fin, Finset.card_range] at h1 h2
    omega
  intro e
  have h1 := least_le (strike^[j] d) s
  have h2 : (strike^[j] d) (least (strike^[j] d)) = ⊤ := by
    rw [struck]; exact if_pos ⟨i, hi, e⟩
  have h3 : (strike^[j] d) s = d s := by
    rw [struck, if_neg]
    rintro ⟨i', hi', e'⟩
    exact hs (Finset.mem_image.2 ⟨i', Finset.mem_range.2 hi', e'⟩)
  rw [h2, h3] at h1
  exact hd s (top_le_iff.1 h1)

/-- Nothing that is left at a round goes ahead of what the round takes. -/
theorem nbr_ahead (j : ℕ) (hj : j < 512) (p : Fin 512) (hp : ∀ i, i < j → nbr d i ≠ p) : ahead d p (nbr d j) = false := by
  have e1 : (strike^[j] d) p = d p := by
    rw [struck, if_neg]; rintro ⟨i, hi, e⟩; exact hp i hi e
  have e2 : (strike^[j] d) (nbr d j) = d (nbr d j) := by
    rw [struck, if_neg]; rintro ⟨i, hi, e⟩; exact nbr_fresh hd j hj i hi e
  have hle : d (nbr d j) ≤ d p := by
    have h := least_le (strike^[j] d) p
    rw [e1] at h
    exact e2 ▸ h
  have hfirst : d p = d (nbr d j) → nbr d j ≤ p := fun e => least_first _ _ fun s' => by
    rw [e1, e, ← e2]; exact least_le _ s'
  simp only [ahead, Bool.or_eq_false_iff, Bool.and_eq_false_iff, decide_eq_false_iff_not, not_lt]
  refine ⟨hle, ?_⟩
  by_cases e : d p = d (nbr d j)
  · exact Or.inr (hfirst e)
  · exact Or.inl e

/-- The sorted row's place `j < 8` comes from the `j`-th near one. -/
theorem sorted_place (j : Fin 8) :
    sortedFrom (fun p q : Fin 512 => decide (d p < d q)) (j.castLE (by norm_num)) = nbr d j.val := by
  rw [sorted_eq _ _ (sort_stable d _ (List.pairwise_lt_finRange 512))]
  refine (ahead_total d).sortedFrom_eq_of_prefix (k := 8) (by norm_num) (fun i => nbr d i.val) ?_ ?_ ?_ j
  · intro a b hab
    by_contra hne
    rcases lt_or_gt_of_ne hne with h | h
    · exact nbr_fresh hd b.val (by omega) a.val h hab
    · exact nbr_fresh hd a.val (by omega) b.val h hab.symm
  · intro a b hab
    exact nbr_ahead hd a.val (by omega) _ fun i hi => nbr_fresh hd b.val (by omega) i (lt_trans hi hab)
  · intro a p hp
    exact nbr_ahead hd a.val (by omega) p fun i hi => hp ⟨i, by omega⟩

end Cert.Spec

end

end
-- ==== Proof.REdges.lean ====
/-
  The edges of the reference's graph: for each edge the node it leaves and the node it enters, as words and as numbers.
-/
module

public import proofs.«01_k».proof.Proof.RDist
public import proofs.«01_k».proof.Proof.RTop
public import Idealize.ShloMosaic.Lib.Routing.OpsSet
public import Idealize.ShloMosaic.Lib.Routing.OpsPair

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Read

variable {A : Spec.Args}
  {x0 : (⟨S128x16x2048, .f32⟩ : BufTy).Contents (Elt Ideal)} {x1 : (⟨S16x16x5, .f32⟩ : BufTy).Contents (Elt Ideal)}
  {x2 : (⟨S16, .f32⟩ : BufTy).Contents (Elt Ideal)} {x3 : (⟨S32x16x5, .f32⟩ : BufTy).Contents (Elt Ideal)}
  {x4 : (⟨S32, .f32⟩ : BufTy).Contents (Elt Ideal)} {x5 : (⟨S32x256, .f32⟩ : BufTy).Contents (Elt Ideal)}
  {x6 : (⟨S256, .f32⟩ : BufTy).Contents (Elt Ideal)} {x7 : (⟨S256x256, .f32⟩ : BufTy).Contents (Elt Ideal)}
  {x8 : (⟨S256, .f32⟩ : BufTy).Contents (Elt Ideal)} {x9 : (⟨S256x64, .f32⟩ : BufTy).Contents (Elt Ideal)}
  {x10 : (⟨S64, .f32⟩ : BufTy).Contents (Elt Ideal)} (H : Holds A x0 x1 x2 x3 x4 x5 x6 x7 x8 x9 x10) (HF : A.Finite)

/-- Putting another column in an index of a rectangle. -/
theorem along_col {m n : ℕ} (r : Fin m) (c k : Fin n) :
    Shape.Idx.along (s := ⟨2, ![m, n]⟩) (ix2 r c) 1 k = ix2 r k := funext fun a => by
  match a with
  | ⟨0, _⟩ => rfl
  | ⟨1, _⟩ => rfl

/-- A stable sort of a rectangle's rows, a second array going along: where the second array's entries come from. -/
theorem sort_rows {m n : ℕ} (gt : EReal → EReal → BitVec 1) (x : (⟨2, ![m, n]⟩ : Shape).Idx → EReal)
    (y : (⟨2, ![m, n]⟩ : Shape).Idx → BitVec 32) (r : Fin m) (c : Fin n) :
    (Host.sort2 ⟨2, ![m, n]⟩ 1 (fun l r => gt l.1 r.1) x y).2 (ix2 r c)
      = y (ix2 r (sortedFrom (fun k k' : Fin n => gt (x (ix2 r k)) (x (ix2 r k')) == 1#1) c)) := by
  unfold Host.sort2
  rw [dif_pos (show 1 < (⟨2, ![m, n]⟩ : Shape).rank from Nat.one_lt_two)]
  show y (Shape.Idx.along (s := ⟨2, ![m, n]⟩) (ix2 r c) 1 (sortedFrom (n := n) (fun k k' : Fin n =>
    gt (x (Shape.Idx.along (s := ⟨2, ![m, n]⟩) (ix2 r c) 1 k)) (x (Shape.Idx.along (s := ⟨2, ![m, n]⟩) (ix2 r c) 1 k')) == 1#1) c)) = _
  rw [along_col]
  simp only [along_col]

/-- The places of the largest entries of a rectangle's rows: the row's place in sorted order. -/
theorem top_places {m n q : ℕ} (hq : q ≤ n) (gt : EReal → EReal → BitVec 1) (x : (⟨2, ![m, n]⟩ : Shape).Idx → EReal)
    (h : (⟨2, ![m, n]⟩ : Shape).Slices (fun _ => 0) ⟨2, ![m, q]⟩) (r : Fin m) (j : Fin q) :
    (Host.topK ⟨2, ![m, q]⟩ 1 gt x h).2 (ix2 r j)
      = BitVec.ofNat 32 (sortedFrom (fun k k' : Fin n => gt (x (ix2 r k)) (x (ix2 r k')) == 1#1) (j.castLE hq)).val := by
  have e : (Host.topK ⟨2, ![m, q]⟩ 1 gt x h).2 (ix2 r j)
      = (Host.sort2 ⟨2, ![m, n]⟩ 1 (fun l r => gt l.1 r.1) x (iotaInDim ⟨2, ![m, n]⟩ 32 1)).2 (ix2 r (j.castLE hq)) := by
    refine congrArg (Host.sort2 ⟨2, ![m, n]⟩ 1 (fun l r => gt l.1 r.1) x (iotaInDim ⟨2, ![m, n]⟩ 32 1)).2 (funext fun a => Fin.ext ?_)
    match a with
    | ⟨0, _⟩ => exact Nat.zero_add _
    | ⟨1, _⟩ => exact Nat.zero_add _
  rw [e, sort_rows]
  rfl

include H HF in
/-- The `j`-th place of row `r` is the `j`-th nearest node. -/
theorem near_word (r : Fin 512) (j : Fin 8) :
    val_main_indices (F := Ideal) x0 x1 x2 x3 x4 (ix2 r j)
      = BitVec.ofNat 32 (Spec.nbr (Spec.dist (Spec.mean A) r) j.val).val := by
  unfold val_main_indices
  rw [top_places (by norm_num), ← Spec.sorted_place (fun s => Spec.dist_ne_top HF r s) j]
  have e : (fun k k' : Fin 512 => FloatOps.cmpfTotal (F := Ideal) (φ := .f32) .gt (val_main_v103 (F := Ideal) x0 x1 x2 x3 x4 (ix2 r k))
      (val_main_v103 (F := Ideal) x0 x1 x2 x3 x4 (ix2 r k')) == 1#1)
      = fun k k' => decide (Spec.dist (Spec.mean A) r k < Spec.dist (Spec.mean A) r k') := by
    funext k k'
    rw [neg_at H, neg_at H]
    show (BitVec.ofBool (decide (- Spec.dist (Spec.mean A) r k' < - Spec.dist (Spec.mean A) r k)) == 1#1) = _
    rw [decide_eq_decide.2 EReal.neg_lt_neg_iff]
    cases decide (Spec.dist (Spec.mean A) r k < Spec.dist (Spec.mean A) r k') <;> rfl
  exact congrArg (fun B => BitVec.ofNat 32 (sortedFrom B (j.castLE (by norm_num))).val) e

/-- Holding a small number between nought and 511 leaves it as it is. -/
theorem clip_small (n : ℕ) (hn : n < 512) :
    IntOp.minsi 511#32 (IntOp.maxsi 0#32 (BitVec.ofNat 32 n)) = BitVec.ofNat 32 n := by
  have h : (BitVec.ofNat 32 n).toInt = (n : Int) := by
    rw [BitVec.toInt_eq_toNat_of_lt (by rw [BitVec.toNat_ofNat]; omega), BitVec.toNat_ofNat]
    norm_cast; omega
  have h1 : IntOp.maxsi 0#32 (BitVec.ofNat 32 n) = BitVec.ofNat 32 n := by
    simp only [IntOp.maxsi, BitVec.slt, h]
    simp
  rw [h1]
  simp only [IntOp.minsi, BitVec.slt, h]
  simp
  omega

include H HF in
/-- The nodes the graph's edges leave: edge `8 r + j` leaves node `r`'s `j`-th nearest. -/
theorem leave_word (e : Fin 4096) :
    val_main_v105 (F := Ideal) x0 x1 x2 x3 x4 (ix1 e)
      = BitVec.ofNat 32 (Spec.nbr (Spec.dist (Spec.mean A) ⟨e.val / 8, by omega⟩) (e.val % 8)).val := by
  pointwise [val_main_v105, val_main_call4_v4, val_main_call4_v3, val_main_c_11, val_main_call4_v2, val_main_call4_v1,
    val_main_call4_v0, val_main_c_10, val_main_v104]
  rw [near_word H HF]
  exact clip_small _ (Fin.isLt _)

/-- The nodes the graph's edges enter: edge `8 r + j` enters node `r`. -/
theorem enter_word (e : Fin 4096) :
    val_main_v109 (F := Ideal) (ix1 e) = BitVec.ofNat 32 (e.val / 8) := by
  pointwise [val_main_v109, val_main_call5_v4, val_main_call5_v3, val_main_c_13, val_main_call5_v2, val_main_call5_v1,
    val_main_call5_v0, val_main_c_12, val_main_v108, val_main_v107, val_main_v106]
  exact clip_small _ (by omega)

/-- The node an edge leaves: for the graph's edges a near node of the first batch, for the others the node itself. -/
def leave (A : Spec.Args) (e : Fin 69632) : Fin 65536 :=
  if h : e.val < 4096 then node 0 (Spec.nbr (Spec.dist (Spec.mean A) ⟨e.val / 8, by omega⟩) (e.val % 8))
  else ⟨e.val - 4096, by omega⟩

/-- The node an edge enters. -/
def enter (e : Fin 69632) : Fin 65536 :=
  if h : e.val < 4096 then node 0 ⟨e.val / 8, by omega⟩ else ⟨e.val - 4096, by omega⟩

include H HF in
/-- The words of the nodes left. -/
theorem leave_all (e : Fin 69632) :
    val_main_v111 (F := Ideal) x0 x1 x2 x3 x4 (ix1 e) = BitVec.ofNat 32 (leave A e).val := by
  pointwise [val_main_v111, val_main_v110]
  unfold leave
  split
  · rw [leave_word H HF]
    exact congrArg (BitVec.ofNat 32) (Nat.zero_add _).symm
  · rfl

/-- The words of the nodes entered. -/
theorem enter_all (e : Fin 69632) :
    val_main_v112 (F := Ideal) (ix1 e) = BitVec.ofNat 32 (enter e).val := by
  pointwise [val_main_v112, val_main_v110]
  unfold enter
  split
  · rw [enter_word]
    exact congrArg (BitVec.ofNat 32) (Nat.zero_add _).symm
  · rfl

/-- The wrap of a node's number from the end leaves it as it is. -/
theorem wrap_node (n : Fin 65536) :
    Scalar.select (IntOp.cmpi .slt (BitVec.ofNat 32 n.val) 0#32) (IntOp.addi (BitVec.ofNat 32 n.val) 65536#32) (BitVec.ofNat 32 n.val)
      = BitVec.ofNat 32 n.val :=
  Routing.wrap_of_lt _ _ (by rw [BitVec.toNat_ofNat]; omega)

include H HF in
/-- The column of the nodes left. -/
theorem leave_at (e : Fin 69632) :
    val_main_v137 (F := Ideal) x0 x1 x2 x3 x4 (ix2 e (0 : Fin 1)) = BitVec.ofNat 32 (leave A e).val := by
  pointwise [val_main_v137, val_main_v136, val_main_v135, val_main_v134, val_main_v133, val_main_v132, val_main_c_23, val_main_c_24]
  rw [leave_all H HF]
  exact wrap_node _

/-- The column of the nodes entered. -/
theorem enter_at (e : Fin 69632) :
    val_main_v120 (F := Ideal) (ix2 e (0 : Fin 1)) = BitVec.ofNat 32 (enter e).val := by
  pointwise [val_main_v120, val_main_v119, val_main_v118, val_main_v117, val_main_v116, val_main_v115, val_main_c_15, val_main_c_16]
  rw [enter_all]
  exact wrap_node _

end Cert.ReferenceIdeal.Hand

end

end
-- ==== Proof.RScatter.lean ====
/-
  Adding up along edges: what a scatter of numbers or of rows over the edges leaves at a node, and which edges enter a node.
-/
module

public import proofs.«01_k».proof.Proof.REdges

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Read

/-- Where an update of the scatter of numbers lands. -/
theorem lands_vec (idx : IVec S69632x1 32) (e : Fin 69632) (p : Fin 65536) (t : Fin 65536)
    (h : idx (ix2 e (0 : Fin 1)) = BitVec.ofNat 32 t.val) :
    scatter_S65536_S69632x1_S69632_n_0_0_1.resultIdx? (ix1 e) idx = some (ix1 p) ↔ t = p := by
  have hs : scatter_S65536_S69632x1_S69632_n_0_0_1.start (ix1 e) idx 0 = (t.val : Int) := by
    unfold ScatterDims.start
    rw [dif_pos (show (0 : Fin 1) ∈ scatter_S65536_S69632x1_S69632_n_0_0_1.scatterDimsToOperandDims from List.mem_singleton.2 rfl)]
    have hi : ∀ c, scatter_S65536_S69632x1_S69632_n_0_0_1.siIdx (ix1 e) c = ix2 e (0 : Fin 1) := fun c => funext fun b => by
      match b with
      | ⟨0, _⟩ => rfl
      | ⟨1, _⟩ => exact Subsingleton.elim (α := Fin 1) _ _
    rw [hi, h]
    exact StableHlo.Predicate.toInt_ofNat_small _ (by omega)
  have hw : scatter_S65536_S69632x1_S69632_n_0_0_1.window (ix1 e) 0 = 0 := rfl
  have hp : (ix1 p : S65536.Idx) 0 = p := rfl
  rw [Routing.resultIdx?_eq_some]
  constructor
  · intro q
    have := q 0
    rw [hs, hw, hp] at this
    exact Fin.ext (by omega)
  · rintro rfl a
    match a with
    | ⟨0, _⟩ =>
      show scatter_S65536_S69632x1_S69632_n_0_0_1.start (ix1 e) idx 0
        + (scatter_S65536_S69632x1_S69632_n_0_0_1.window (ix1 e) 0 : Int) = ((t.val : ℕ) : Int)
      rw [hs, hw]; simp

/-- Where an update of the scatter of rows lands. -/
theorem lands_row (idx : IVec S69632x1 32) (e : Fin 69632) (c : Fin 256) (p : Fin 65536) (o : Fin 256) (t : Fin 65536)
    (h : idx (ix2 e (0 : Fin 1)) = BitVec.ofNat 32 t.val) :
    scatter_S65536x256_S69632x1_S69632x256_1_0_0_1.resultIdx? (ix2 e c) idx = some (ix2 p o) ↔ t = p ∧ c = o := by
  have hs : scatter_S65536x256_S69632x1_S69632x256_1_0_0_1.start (ix2 e c) idx 0 = (t.val : Int) := by
    unfold ScatterDims.start
    rw [dif_pos (show (0 : Fin 2) ∈ scatter_S65536x256_S69632x1_S69632x256_1_0_0_1.scatterDimsToOperandDims from List.mem_singleton.2 rfl)]
    have hi : ∀ k, scatter_S65536x256_S69632x1_S69632x256_1_0_0_1.siIdx (ix2 e c) k = ix2 e (0 : Fin 1) := fun k => funext fun b => by
      match b with
      | ⟨0, _⟩ => rfl
      | ⟨1, _⟩ => exact Subsingleton.elim (α := Fin 1) _ _
    rw [hi, h]
    exact StableHlo.Predicate.toInt_ofNat_small _ (by omega)
  have hs1 : scatter_S65536x256_S69632x1_S69632x256_1_0_0_1.start (ix2 e c) idx 1 = 0 := by
    unfold ScatterDims.start
    exact dif_neg (show (1 : Fin 2) ∉ ([0] : List (Fin 2)) by decide)
  have hw : scatter_S65536x256_S69632x1_S69632x256_1_0_0_1.window (ix2 e c) 0 = 0 := rfl
  have hw1 : scatter_S65536x256_S69632x1_S69632x256_1_0_0_1.window (ix2 e c) 1 = c.val := rfl
  rw [Routing.resultIdx?_eq_some]
  constructor
  · intro q
    have q0 : scatter_S65536x256_S69632x1_S69632x256_1_0_0_1.start (ix2 e c) idx 0
        + (scatter_S65536x256_S69632x1_S69632x256_1_0_0_1.window (ix2 e c) 0 : Int) = (p.val : Int) := q 0
    have q1 : scatter_S65536x256_S69632x1_S69632x256_1_0_0_1.start (ix2 e c) idx 1
        + (scatter_S65536x256_S69632x1_S69632x256_1_0_0_1.window (ix2 e c) 1 : Int) = (o.val : Int) := q 1
    rw [hs, hw] at q0
    rw [hs1, hw1] at q1
    exact ⟨Fin.ext (by omega), Fin.ext (by omega)⟩
  · rintro ⟨rfl, rfl⟩ a
    match a with
    | ⟨0, _⟩ =>
      show scatter_S65536x256_S69632x1_S69632x256_1_0_0_1.start (ix2 e c) idx 0
        + (scatter_S65536x256_S69632x1_S69632x256_1_0_0_1.window (ix2 e c) 0 : Int) = ((t.val : ℕ) : Int)
      rw [hs, hw]; simp
    | ⟨1, _⟩ =>
      show scatter_S65536x256_S69632x1_S69632x256_1_0_0_1.start (ix2 e c) idx 1
        + (scatter_S65536x256_S69632x1_S69632x256_1_0_0_1.window (ix2 e c) 1 : Int) = ((c.val : ℕ) : Int)
      rw [hs1, hw1]; simp

/-- What a scatter of numbers leaves at a node. -/
theorem scatter_vec (x : FVec Ideal S65536 .f32) (idx : IVec S69632x1 32) (upd : FVec Ideal S69632 .f32) (tgt : Fin 69632 → Fin 65536)
    (h : ∀ e, idx (ix2 e (0 : Fin 1)) = BitVec.ofNat 32 (tgt e).val) (p : Fin 65536) :
    Host.scatterAdd scatter_S65536_S69632x1_S69632_n_0_0_1 x idx upd (ix1 p)
      = x (ix1 p) + ∑ e, if tgt e = p then upd (ix1 e) else 0 := by
  show x (ix1 p) + ∑ j ∈ Finset.univ.filter (fun j => scatter_S65536_S69632x1_S69632_n_0_0_1.resultIdx? j idx = some (ix1 p)), upd j = _
  rw [Finset.sum_filter, sum_idx1]
  refine congrArg (x (ix1 p) + ·) ?_
  exact Finset.sum_congr rfl fun e _ => if_congr (lands_vec idx e p (tgt e) (h e)) rfl rfl

/-- What a scatter of rows leaves at a node's row. -/
theorem scatter_row (x : FVec Ideal S65536x256 .f32) (idx : IVec S69632x1 32) (upd : FVec Ideal S69632x256 .f32)
    (tgt : Fin 69632 → Fin 65536) (h : ∀ e, idx (ix2 e (0 : Fin 1)) = BitVec.ofNat 32 (tgt e).val) (p : Fin 65536) (o : Fin 256) :
    Host.scatterAdd scatter_S65536x256_S69632x1_S69632x256_1_0_0_1 x idx upd (ix2 p o)
      = x (ix2 p o) + ∑ e, if tgt e = p then upd (ix2 e o) else 0 := by
  show x (ix2 p o) + ∑ j ∈ Finset.univ.filter (fun j => scatter_S65536x256_S69632x1_S69632x256_1_0_0_1.resultIdx? j idx = some (ix2 p o)), upd j = _
  rw [Finset.sum_filter, sum_idx2]
  refine congrArg (x (ix2 p o) + ·) ?_
  refine Finset.sum_congr rfl fun e _ => ?_
  have h1 : ∀ c : Fin 256, (if scatter_S65536x256_S69632x1_S69632x256_1_0_0_1.resultIdx? (ix2 e c) idx = some (ix2 p o) then upd (ix2 e c) else 0)
      = if c = o then (if tgt e = p then upd (ix2 e o) else 0) else 0 := fun c => by
    rw [if_congr (lands_row idx e c p o (tgt e) (h e)) rfl rfl]
    by_cases hc : c = o
    · subst hc; simp
    · simp [hc]
  rw [Finset.sum_congr rfl fun c _ => h1 c, Finset.sum_ite_eq' Finset.univ o]
  simp

/-- The edge at place `8 n + j`. -/
def edge (n : Fin 512) (j : Fin 8) : Fin 69632 := ⟨8 * n.val + j.val, by omega⟩

/-- A node's own edge. -/
def own (p : Fin 65536) : Fin 69632 := ⟨4096 + p.val, by omega⟩

/-- Edge `j` of node `n` enters node `n` of the first batch. -/
theorem enter_edge (n : Fin 512) (j : Fin 8) : enter (edge n j) = node 0 n := by
  unfold enter edge
  rw [dif_pos (show 8 * n.val + j.val < 4096 by omega)]
  exact congrArg (node 0) (Fin.ext (by show (8 * n.val + j.val) / 8 = n.val; omega))

/-- A node's own edge enters it. -/
theorem enter_own (p : Fin 65536) : enter (own p) = p := by
  unfold enter own
  rw [dif_neg (show ¬ 4096 + p.val < 4096 by omega)]
  exact Fin.ext (by show 4096 + p.val - 4096 = p.val; omega)

/-- Edge `j` of node `n` leaves the `j`-th nearest node of `n`. -/
theorem leave_edge (A : Spec.Args) (n : Fin 512) (j : Fin 8) :
    leave A (edge n j) = node 0 (Spec.nbr (Spec.dist (Spec.mean A) n) j.val) := by
  unfold leave edge
  rw [dif_pos (show 8 * n.val + j.val < 4096 by omega)]
  have e1 : (⟨(8 * n.val + j.val) / 8, by omega⟩ : Fin 512) = n := Fin.ext (by show (8 * n.val + j.val) / 8 = n.val; omega)
  have e2 : (8 * n.val + j.val) % 8 = j.val := by omega
  show node 0 (Spec.nbr (Spec.dist (Spec.mean A) ⟨(8 * n.val + j.val) / 8, _⟩) ((8 * n.val + j.val) % 8)) = _
  rw [e1, e2]

/-- A node's own edge leaves it. -/
theorem leave_own (A : Spec.Args) (p : Fin 65536) : leave A (own p) = p := by
  unfold leave own
  rw [dif_neg (show ¬ 4096 + p.val < 4096 by omega)]
  exact Fin.ext (by show 4096 + p.val - 4096 = p.val; omega)

/-- A node of the first batch is node `n` of batch `b` exactly when `b` is the first batch and the numbers agree. -/
theorem node_zero (b : Fin 128) (n r : Fin 512) : node 0 r = node b n ↔ r = n ∧ b = 0 := by
  constructor
  · intro h
    have h' : 512 * (0 : Fin 128).val + r.val = 512 * b.val + n.val := congrArg Fin.val h
    have : (0 : Fin 128).val = 0 := rfl
    rw [this] at h'
    exact ⟨Fin.ext (by omega), Fin.ext (by rw [this]; omega)⟩
  · rintro ⟨rfl, rfl⟩; rfl

/-- A sum over the edges that enter a node: the eight edges from the near ones if the node lies in the first batch,
    and the node's own edge. -/
theorem sum_entering (f : Fin 69632 → EReal) (b : Fin 128) (n : Fin 512) :
    (∑ e, if enter e = node b n then f e else 0) = (if b = 0 then ∑ j, f (edge n j) else 0) + f (own (node b n)) := by
  have cut : ∀ g : Fin 69632 → EReal, ∑ e, g e = (∑ i : Fin 4096, g (Fin.castAdd 65536 i)) + ∑ p : Fin 65536, g (Fin.natAdd 4096 p) :=
    fun g => Fin.sum_univ_add (a := 4096) (b := 65536) g
  rw [cut]
  refine congrArg₂ (· + ·) ?_ ?_
  · have e1 : (∑ i : Fin 4096, if enter (Fin.castAdd 65536 i) = node b n then f (Fin.castAdd 65536 i) else 0)
        = ∑ r : Fin 512, ∑ j : Fin 8, if enter (edge r j) = node b n then f (edge r j) else 0 := by
      rw [← Fintype.sum_prod_type', ← (finProdFinEquiv (m := 512) (n := 8)).sum_comp]
      refine Finset.sum_congr rfl fun q _ => ?_
      have : (Fin.castAdd 65536 (finProdFinEquiv q) : Fin 69632) = edge q.1 q.2 :=
        Fin.ext (by show q.2.val + 8 * q.1.val = 8 * q.1.val + q.2.val; omega)
      exact congrArg (fun e => if enter e = node b n then f e else 0) this
    rw [e1]
    simp only [enter_edge, node_zero]
    by_cases hb : b = 0
    · subst hb
      simp only [and_true, if_true]
      rw [Finset.sum_comm]
      simp
    · simp [hb]
  · have e2 : ∀ p : Fin 65536, (Fin.natAdd 4096 p : Fin 69632) = own p := fun p => rfl
    simp only [e2, enter_own]
    rw [Finset.sum_ite_eq' Finset.univ (node b n)]
    simp

end Cert.ReferenceIdeal.Hand

end

end
-- ==== Proof.RLayer.lean ====
/-
  One layer's mixing in the reference: how many edges enter a node, the weight of an edge, and the sum over the edges.
-/
module

public import proofs.«01_k».proof.Proof.RScatter

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Read

variable {A : Spec.Args}
  {x0 : (⟨S128x16x2048, .f32⟩ : BufTy).Contents (Elt Ideal)} {x1 : (⟨S16x16x5, .f32⟩ : BufTy).Contents (Elt Ideal)}
  {x2 : (⟨S16, .f32⟩ : BufTy).Contents (Elt Ideal)} {x3 : (⟨S32x16x5, .f32⟩ : BufTy).Contents (Elt Ideal)}
  {x4 : (⟨S32, .f32⟩ : BufTy).Contents (Elt Ideal)} {x5 : (⟨S32x256, .f32⟩ : BufTy).Contents (Elt Ideal)}
  {x6 : (⟨S256, .f32⟩ : BufTy).Contents (Elt Ideal)} {x7 : (⟨S256x256, .f32⟩ : BufTy).Contents (Elt Ideal)}
  {x8 : (⟨S256, .f32⟩ : BufTy).Contents (Elt Ideal)} {x9 : (⟨S256x64, .f32⟩ : BufTy).Contents (Elt Ideal)}
  {x10 : (⟨S64, .f32⟩ : BufTy).Contents (Elt Ideal)} (H : Holds A x0 x1 x2 x3 x4 x5 x6 x7 x8 x9 x10) (HF : A.Finite)

/-- The root of nine. -/
theorem root_nine : Ideal.sqrt ((9 : ℝ) : EReal) = ((3 : ℝ) : EReal) := by
  show (if (9 : ℝ) < 0 then (⊥ : EReal) else ((Real.sqrt 9 : ℝ) : EReal)) = _
  rw [if_neg (by norm_num), show (9 : ℝ) = 3 ^ 2 by norm_num, Real.sqrt_sq (by norm_num)]

/-- The root of one. -/
theorem root_one : Ideal.sqrt ((1 : ℝ) : EReal) = ((1 : ℝ) : EReal) := by
  show (if (1 : ℝ) < 0 then (⊥ : EReal) else ((Real.sqrt 1 : ℝ) : EReal)) = _
  rw [if_neg (by norm_num), Real.sqrt_one]

/-- How many edges enter a node: nine in the first batch, one elsewhere. -/
theorem degree_at (b : Fin 128) (n : Fin 512) :
    val_main_v122 (F := Ideal) (ix1 (node b n)) = if b = 0 then ((9 : ℝ) : EReal) else ((1 : ℝ) : EReal) := by
  unfold val_main_v122
  rw [scatter_vec _ _ _ enter enter_at, sum_entering (fun e => val_main_v121 (F := Ideal) (ix1 e))]
  have h0 : val_main_v114 (F := Ideal) (ix1 (node b n)) = 0 := by
    pointwise [val_main_v114, val_main_cst_14]
  have h1 : ∀ e : Fin 69632, val_main_v121 (F := Ideal) (ix1 e) = ((1 : ℝ) : EReal) := fun e => by
    pointwise [val_main_v121, val_main_cst_17]
    exact EReal.coe_one.symm
  rw [h0, zero_add, h1]
  simp only [h1]
  split
  · rw [Fin.sum_univ_eight]
    norm_cast
  · rw [zero_add]

/-- One over the root of how many edges enter a node. -/
theorem scale_at (b : Fin 128) (n : Fin 512) :
    val_main_v131 (F := Ideal) (ix1 (node b n)) = if b = 0 then ((1 / 3 : ℝ) : EReal) else ((1 : ℝ) : EReal) := by
  pointwise [val_main_v131, val_main_call7_v1, val_main_call7_v0, val_main_cst_22, val_main_v130, val_main_v129, val_main_cst_21,
    val_main_v128, val_main_v127, val_main_call6_v1, val_main_call6_v0, val_main_cst_20, val_main_v126, val_main_v125,
    val_main_cst_19, val_main_v124, val_main_v123, val_main_cst_18]
  rw [degree_at]
  by_cases hb : b = 0
  · have h : (0 : EReal) < ((9 : ℝ) : EReal) := by norm_cast
    simp only [hb, if_true]
    rw [if_pos h, if_pos h, root_nine, Ideal.div_coe (by norm_num), one_mul]
  · have h : (0 : EReal) < ((1 : ℝ) : EReal) := by norm_cast
    simp only [if_neg hb]
    rw [if_pos h, if_pos h, root_one, Ideal.div_coe (by norm_num), one_mul]
    norm_num

/-- The weight of the edge between two nodes. -/
def weight (p : Fin 65536) : EReal := val_main_v131 (F := Ideal) (ix1 p)

include H HF in
/-- The weight of an edge: the product of its two nodes' scales. -/
theorem weight_at (e : Fin 69632) :
    val_main_v146 (F := Ideal) x0 x1 x2 x3 x4 (ix1 e) = weight (leave A e) * weight (enter e) := by
  have h1 : val_main_v138 (F := Ideal) x0 x1 x2 x3 x4 (ix1 e) = weight (leave A e) := by
    unfold val_main_v138
    exact Routing.gather_take1 _ rfl rfl rfl rfl _ _ e (leave A e) (leave_at H HF e) (by norm_num)
  have h2 : val_main_v145 (F := Ideal) (ix1 e) = weight (enter e) := by
    unfold val_main_v145
    exact Routing.gather_take1 _ rfl rfl rfl rfl _ _ e (enter e) (enter_at e) (by norm_num)
  rw [val_main_v146_apply, h1, h2]
  rfl

include H HF in
/-- The mixing of the nodes' rows over the edges. -/
theorem mix_at (Z : FVec Ideal S65536x256 .f32) (b : Fin 128) (n : Fin 512) (o : Fin 256) :
    Host.scatterAdd scatter_S65536x256_S69632x1_S69632x256_1_0_0_1 (val_main_v147 (F := Ideal)) (val_main_v163 (F := Ideal))
        (mulf (val_main_v156 (F := Ideal) x0 x1 x2 x3 x4)
          (Host.gather gather_S65536x256_S69632x1_S69632x256_1_0_n_n_0_1_1256 Z (val_main_v154 (F := Ideal) x0 x1 x2 x3 x4)))
        (ix2 (node b n) o)
      = Spec.spread A b (fun n o => Z (ix2 (node b n) o)) n o := by
  have hu : ∀ e, (mulf (val_main_v156 (F := Ideal) x0 x1 x2 x3 x4)
          (Host.gather gather_S65536x256_S69632x1_S69632x256_1_0_n_n_0_1_1256 Z (val_main_v154 (F := Ideal) x0 x1 x2 x3 x4))) (ix2 e o)
      = weight (leave A e) * weight (enter e) * Z (ix2 (leave A e) o) := fun e => by
    have h1 : val_main_v156 (F := Ideal) x0 x1 x2 x3 x4 (ix2 e o) = weight (leave A e) * weight (enter e) := by
      pointwise [val_main_v156, val_main_v148]
      exact weight_at H HF e
    have h2 : Host.gather gather_S65536x256_S69632x1_S69632x256_1_0_n_n_0_1_1256 Z (val_main_v154 (F := Ideal) x0 x1 x2 x3 x4) (ix2 e o)
        = Z (ix2 (leave A e) o) :=
      Routing.gather_row _ rfl rfl rfl rfl rfl _ _ e o (leave A e) (leave_at H HF e) (by norm_num)
    exact congrArg₂ (fun u v : EReal => u * v) h1 h2
  rw [show val_main_v163 (F := Ideal) = val_main_v120 (F := Ideal) from rfl, scatter_row _ _ _ enter enter_at]
  simp only [hu]
  rw [sum_entering (fun e => weight (leave A e) * weight (enter e) * Z (ix2 (leave A e) o))]
  have h0 : val_main_v147 (F := Ideal) (ix2 (node b n) o) = 0 := by
    pointwise [val_main_v147, val_main_cst_27]
  rw [h0, zero_add]
  simp only [leave_edge, enter_edge, leave_own, enter_own, weight, scale_at, if_true]
  unfold Spec.spread
  by_cases hb : b = 0
  · subst hb
    simp only [if_true]
    rfl
  · simp only [if_neg hb]
    rw [zero_add, EReal.coe_one, one_mul, one_mul]

end Cert.ReferenceIdeal.Hand

end

end
-- ==== Proof.ROut.lean ====
/-
  The two graph layers and what follows them in the reference, and the result as a function of the arguments.
-/
module

public import proofs.«01_k».proof.Proof.RLayer

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Read

variable {A : Spec.Args}
  {x0 : (⟨S128x16x2048, .f32⟩ : BufTy).Contents (Elt Ideal)} {x1 : (⟨S16x16x5, .f32⟩ : BufTy).Contents (Elt Ideal)}
  {x2 : (⟨S16, .f32⟩ : BufTy).Contents (Elt Ideal)} {x3 : (⟨S32x16x5, .f32⟩ : BufTy).Contents (Elt Ideal)}
  {x4 : (⟨S32, .f32⟩ : BufTy).Contents (Elt Ideal)} {x5 : (⟨S32x256, .f32⟩ : BufTy).Contents (Elt Ideal)}
  {x6 : (⟨S256, .f32⟩ : BufTy).Contents (Elt Ideal)} {x7 : (⟨S256x256, .f32⟩ : BufTy).Contents (Elt Ideal)}
  {x8 : (⟨S256, .f32⟩ : BufTy).Contents (Elt Ideal)} {x9 : (⟨S256x64, .f32⟩ : BufTy).Contents (Elt Ideal)}
  {x10 : (⟨S64, .f32⟩ : BufTy).Contents (Elt Ideal)} (H : Holds A x0 x1 x2 x3 x4 x5 x6 x7 x8 x9 x10) (HF : A.Finite)

include H in
/-- The features times the first weights. -/
theorem xw1_at (b : Fin 128) (n : Fin 512) (o : Fin 256) :
    val_main_v113 (F := Ideal) x0 x1 x2 x3 x4 x5 (ix2 (node b n) o) = Spec.xw1 A b n o := by
  pointwise [val_main_v113]
  simp only [feat_at H, H.hW1]
  rfl

include H HF in
/-- The first layer's rows. -/
theorem hid1_at (b : Fin 128) (n : Fin 512) (o : Fin 256) :
    val_main_v168 (F := Ideal) x0 x1 x2 x3 x4 x5 x6 (ix2 (node b n) o) = Spec.hid1 A b n o := by
  have h : val_main_v164 (F := Ideal) x0 x1 x2 x3 x4 x5 (ix2 (node b n) o) = Spec.spread A b (Spec.xw1 A b) n o := by
    have e : (fun n o => val_main_v113 (F := Ideal) x0 x1 x2 x3 x4 x5 (ix2 (node b n) o)) = Spec.xw1 A b :=
      funext fun n => funext fun o => xw1_at H b n o
    rw [← e]
    exact mix_at H HF (val_main_v113 (F := Ideal) x0 x1 x2 x3 x4 x5) b n o
  pointwise [val_main_v168, val_main_v167, val_main_v166, val_main_v165, val_main_call8_v0, val_main_call8_cst]
  rw [h, H.hb1]
  rfl

include H HF in
/-- The first layer's rows times the second weights. -/
theorem xw2_at (b : Fin 128) (n : Fin 512) (o : Fin 256) :
    val_main_v169 (F := Ideal) x0 x1 x2 x3 x4 x5 x6 x7 (ix2 (node b n) o) = Spec.xw2 A b n o := by
  pointwise [val_main_v169]
  simp only [hid1_at H HF, H.hW2]
  rfl

include H HF in
/-- The second layer's rows. -/
theorem hid2_at (b : Fin 128) (n : Fin 512) (o : Fin 256) :
    val_main_v224 (F := Ideal) x0 x1 x2 x3 x4 x5 x6 x7 x8 (ix2 (node b n) o) = Spec.hid2 A b n o := by
  have h : val_main_v220 (F := Ideal) x0 x1 x2 x3 x4 x5 x6 x7 (ix2 (node b n) o) = Spec.spread A b (Spec.xw2 A b) n o := by
    have e : (fun n o => val_main_v169 (F := Ideal) x0 x1 x2 x3 x4 x5 x6 x7 (ix2 (node b n) o)) = Spec.xw2 A b :=
      funext fun n => funext fun o => xw2_at H HF b n o
    have e1 : val_main_v203 (F := Ideal) = val_main_v147 (F := Ideal) := rfl
    have e2 : val_main_v219 (F := Ideal) = val_main_v163 (F := Ideal) := rfl
    have e3 : val_main_v187 (F := Ideal) = val_main_v131 (F := Ideal) := rfl
    have e4 : val_main_v193 (F := Ideal) x0 x1 x2 x3 x4 = val_main_v137 (F := Ideal) x0 x1 x2 x3 x4 := rfl
    have e5 : val_main_v200 (F := Ideal) = val_main_v144 (F := Ideal) := rfl
    have e6 : val_main_v202 (F := Ideal) x0 x1 x2 x3 x4 = val_main_v146 (F := Ideal) x0 x1 x2 x3 x4 := by
      unfold val_main_v202 val_main_v146 val_main_v194 val_main_v201 val_main_v138 val_main_v145
      rw [e3, e4, e5]
    have e7 : val_main_v212 (F := Ideal) x0 x1 x2 x3 x4 = val_main_v156 (F := Ideal) x0 x1 x2 x3 x4 := by
      unfold val_main_v212 val_main_v156 val_main_v204 val_main_v148
      rw [e6]
    have e8 : val_main_v210 (F := Ideal) x0 x1 x2 x3 x4 = val_main_v154 (F := Ideal) x0 x1 x2 x3 x4 := rfl
    rw [← e]
    unfold val_main_v220 val_main_v213 val_main_v211
    rw [e1, e2, e7, e8]
    exact mix_at H HF (val_main_v169 (F := Ideal) x0 x1 x2 x3 x4 x5 x6 x7) b n o
  pointwise [val_main_v224, val_main_v223, val_main_v222, val_main_v221, val_main_call11_v0, val_main_call11_cst]
  rw [h, H.hb2]
  rfl

/-- The word of 512. -/
theorem bits_512 : Ideal.ofBits .f32 1140850688#32 = ((512 : ℝ) : EReal) := by
  simp [Ideal.ofBits, Ideal.ieee, -EReal.coe_mul]; norm_num

include H HF in
/-- The second layer's rows, batch by batch. -/
theorem rows_at (b : Fin 128) (n : Fin 512) (k : Fin 256) :
    val_main_v225 (F := Ideal) x0 x1 x2 x3 x4 x5 x6 x7 x8 (ix3 b n k) = Spec.hid2 A b n k := by
  rw [← hid2_at H HF b n k]
  pointwise [val_main_v225]
  exact congrArg (fun p => val_main_v224 (F := Ideal) x0 x1 x2 x3 x4 x5 x6 x7 x8 (ix2 p k))
    (Fin.ext (by show b.val * 512 + n.val = 512 * b.val + n.val; omega))

include H HF in
/-- The mean over the nodes. -/
theorem pooled_at (b : Fin 128) (k : Fin 256) :
    val_main_v228 (F := Ideal) x0 x1 x2 x3 x4 x5 x6 x7 x8 (ix2 b k) = Spec.pooled A b k := by
  pointwise [val_main_v228, val_main_v227, val_main_cst_51, val_main_v226, val_main_cst_50]
  simp only [rows_at H HF]
  rw [bits_512, Ideal.div_coe (by norm_num)]
  rfl

include H HF in
/-- The reference's result. -/
theorem out_at (b : Fin 128) (o : Fin 64) :
    val_main_v232 (F := Ideal) x0 x1 x2 x3 x4 x5 x6 x7 x8 x9 x10 (ix2 b o) = Spec.out A b o := by
  pointwise [val_main_v232, val_main_v231, val_main_v230, val_main_v229]
  simp only [pooled_at H HF, H.hfw, H.hfb]
  rfl

end Cert.ReferenceIdeal.Hand

end

end
-- ==== Proof.RResult.lean ====
/-
  The reference's run: its result as the same function of the arguments as the kernel's.
-/
module

public import proofs.«01_k».proof.Proof.ROut
public import proofs.«01_k».proof.Proof.Gen.ReferenceIdeal.Run

@[expose] public section

set_option maxRecDepth 16384

noncomputable section

namespace Cert.ReferenceIdeal.Hand

open Idealize.ShloMosaic Idealize.ShloMosaic.TcCoe Idealize.ShloMosaic.Tactic Idealize.ShloMosaic.StableHlo Idealize.SL.Sem
open Cert.ReferenceIdeal Cert.ReferenceIdeal.Gen Cert.ReferenceIdeal.Read

variable (m : (loc : Loc nD τ sig) → Buf (Elt Ideal) loc) (c : Dev nD)

/-- That the reference's arguments on a device are the given ones. -/
abbrev HoldsAt (A : Spec.Args) : Prop :=
  Holds A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-- The reference runs, its result on every device is the common function of the arguments, and the arguments stay. -/
theorem reference_value (ρ : Dev nD → PrngReg) (A : Dev nD → Spec.Args) (H : ∀ c, HoldsAt m c (A c)) (HF : ∀ c, (A c).Finite) :
    θ_run defs (onTc (τ := τ) (main (F := Ideal))) ⟨m, fun _ => 0, ρ⟩ (fun r => ∀ c : Dev nD,
      r.2.mem ((c.tc : Thread nD τ).loc main_v232) = (fun j => Spec.out (A c) (j 0) (j 1) : FVec Ideal S128x64 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ⟨((h c).1.trans (val_main_v232_eq (launchContents m c))).trans ?_, (h c).2⟩)
    (Cert.ReferenceIdeal.Value.run m ρ)
  funext j
  have e : j = ix2 (j 0) (j 1) := eq_ix2 j
  have h := out_at (H c) (HF c) (j 0) (j 1)
  exact (congrArg (val_main_v232 (F := Ideal) _ _ _ _ _ _ _ _ _ _ _) e).trans h

end Cert.ReferenceIdeal.Hand

end

end
-- ==== Proof.RPre.lean ====
/-
  The precondition read: where it holds, what the two convolutions convolve is finite.
-/
module

public import proofs.«01_k».proof.Defs
public import proofs.«01_k».proof.Proof.KOut
public import proofs.«01_k».proof.Proof.Finite
public import proofs.«01_k».proof.Proof.Gen.Pre_convolved_finite
public import Idealize.ShloMosaic.Lib.ReduceAll
import all proofs.«01_k».proof.Defs
import all proofs.«01_k».proof.Pre_convolved_finite

@[expose] public section

set_option maxRecDepth 16384

noncomputable section

namespace Cert.Proof

open Idealize.ShloMosaic

/-- A number whose size is less than infinity is finite. -/
theorem real_of_size (a : EReal) (h : BitVec.ofBool (decide (max a (-a) < ⊤)) = 1#1) : Cert.Spec.IsReal a := by
  have h' : max a (-a) < ⊤ := by
    by_contra hc
    rw [decide_eq_false hc] at h
    exact absurd h (by decide)
  induction a with
  | bot => exact absurd h' (by simp)
  | top => exact absurd h' (by simp)
  | coe r => exact ⟨r, rfl⟩

/-- The word of infinity. -/
theorem bits_top : Ideal.ofBits .f32 0x7F800000#32 = ⊤ := by
  simp [Ideal.ofBits, Ideal.ieee, -EReal.coe_mul]

/-- An array of which the test "every entry's size is less than infinity" came out true is finite everywhere. -/
theorem real_of_all {s t u : Shape} {axes : List (Fin s.rank)} (x : FVec Ideal s .f32) (y : FVec Ideal s .f32) (init : u.Idx → BitVec 1)
    (h : s.ReducesTo axes t) (hu : 0 < u.numel) (j : t.Idx) [Subsingleton t.Idx]
    (hy : ∀ i, y i = Ideal.ofBits .f32 0x7F800000#32)
    (e : Host.reduce IntOp.andi (cmpf .olt (Host.absf x) y) init h hu j = 1#1) (i : s.Idx) : Cert.Spec.IsReal (x i) := by
  have h1 := Host.reduce_andi_all _ _ h hu j e i
  refine real_of_size _ ?_
  have h2 : BitVec.ofBool (decide (max (x i) (-(x i)) < y i)) = 1#1 := h1
  rwa [hy, bits_top] at h2

local instance : Subsingleton Cert.Pre_convolved_finite.S_.Idx := ⟨fun _ _ => funext fun a => a.elim0⟩

/-- Where the precondition holds, what the two convolutions convolve is finite. -/
theorem finite_of_pre (m : (ℓ : Loc Cert.KernelIdeal.nD Cert.KernelIdeal.τ Cert.KernelIdeal.sig) → Buf (Elt Ideal) ℓ)
    (h : Cert.Pre_KernelIdeal_convolved_finite (hPre_convolved_finite := Cert.Pre_convolved_finite.Gen.facts) m)
    (c : Dev Cert.KernelIdeal.nD) : (Cert.KernelIdeal.Hand.argsOf m c).Finite := by
  have h0 := congrFun (h c) ix0
  unfold Cert.Pre_convolved_finite.fn Cert.Pre_convolved_finite.fn_part1 at h0
  dsimp only at h0
  obtain ⟨h0, h3⟩ := IntOp.andi_eq_one.1 h0
  obtain ⟨h0, h2⟩ := IntOp.andi_eq_one.1 h0
  obtain ⟨h0, h1⟩ := IntOp.andi_eq_one.1 h0
  exact
    { hx := fun b i n => real_of_all _ _ _ _ _ _ (fun _ => rfl) h0 (ix3 b i n)
      hk1 := fun o i k => real_of_all _ _ _ _ _ _ (fun _ => rfl) h1 (ix3 o i k)
      hc1 := fun o => real_of_all _ _ _ _ _ _ (fun _ => rfl) h2 (ix1 o)
      hk2 := fun o i k => real_of_all _ _ _ _ _ _ (fun _ => rfl) h3 (ix3 o i k) }

end Cert.Proof

end

end
-- ==== Proof.Algebraic.lean ====
/-
  The equation: where what the two convolutions convolve is finite, the idealized kernel and the idealized reference
  end with one result.
-/
module

public import proofs.«01_k».proof.Defs
public import proofs.«01_k».proof.Proof.Frames
public import proofs.«01_k».proof.Proof.KResult
public import proofs.«01_k».proof.Proof.RResult
public import proofs.«01_k».proof.Proof.RPre
public import Idealize.ShloMosaic.Lib.Claim

@[expose] public section

set_option maxRecDepth 16384

noncomputable section

namespace Cert.Proof

open Idealize.ShloMosaic Idealize.SL.Sem

/-- On arguments whose signals, convolution weights and first bias are finite, both programs run, end with equal results,
    and keep their arguments. -/
theorem algebraic :
    Cert.algebraic_KernelIdeal_ReferenceIdeal_pre_convolved_finite (hKernelIdeal := Cert.KernelIdeal.Gen.facts)
      (hReferenceIdeal := Cert.ReferenceIdeal.Gen.facts) (hPre_convolved_finite := Cert.Pre_convolved_finite.Gen.facts) := by
  intro m g m' g' hp hm
  have HF : ∀ c, (Cert.KernelIdeal.Hand.argsOf m c).Finite := finite_of_pre m hp
  refine ⟨fun c => Cert.KernelIdeal.Hand.result m c, ?_, ?_⟩
  · exact (θ_run _ _ _).mono (fun r h c => ⟨h.1 c, h.2.1 c⟩)
      (θ_run_and (Cert.KernelIdeal.Hand.kernel_value m g HF) (Cert.KernelIdeal.Hand.frame m g))
  · refine Cert.ReferenceIdeal.Hand.reference_value m' g' (fun c => Cert.KernelIdeal.Hand.argsOf m c) (fun c => ?_) HF
    obtain ⟨h0, h1, h2, h3, h4, h5, h6, h7, h8, h9, h10⟩ := hm c
    exact
      { hx := fun b i n => congrFun h0 (ix3 b i n)
        hk1 := fun o i k => congrFun h1 (ix3 o i k)
        hc1 := fun o => congrFun h2 (ix1 o)
        hk2 := fun o i k => congrFun h3 (ix3 o i k)
        hc2 := fun o => congrFun h4 (ix1 o)
        hW1 := fun a o => congrFun h5 (ix2 a o)
        hb1 := fun o => congrFun h6 (ix1 o)
        hW2 := fun a o => congrFun h7 (ix2 a o)
        hb2 := fun o => congrFun h8 (ix1 o)
        hfw := fun a o => congrFun h9 (ix2 a o)
        hfb := fun o => congrFun h10 (ix1 o) }

end Cert.Proof

end

end
-- ==== Proof.lean ====
/- The claim: the frames of the three programs, the named constants, and the equation of the two results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_convolved_finite
public import proofs.«01_k».proof.Proof.Frames
public import proofs.«01_k».proof.Proof.Algebraic

@[expose] public section

noncomputable section

namespace Cert.Proof

/-- Everything claimed of the programs. -/
theorem claim : Cert.Claim :=
  ⟨Cert.Kernel.Gen.facts, Cert.KernelIdeal.Gen.facts, Cert.ReferenceIdeal.Gen.facts, Cert.Pre_convolved_finite.Gen.facts,
    kernel_frame, ideal_frame, fun m g _ => ideal_frame m g trivial, reference_frame,
    fun m g _ => reference_frame m g trivial, named, algebraic⟩

end Cert.Proof

end
